-- ==== Defs.lean ====
def Pre_Kernel [hPre_sizes_split_tokens : Cert.Pre_sizes_split_tokens.Facts] (m : (ℓ : Loc Cert.Kernel.nD Cert.Kernel.τ Cert.Kernel.sig) → Buf (Elt Bits) ℓ) : Prop :=
  ∀ c : Dev Cert.Kernel.nD,
    (Cert.Pre_sizes_split_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_split_tokens : Cert.Pre_sizes_split_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_split_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_split_tokens [hPre_sizes_split_tokens : Cert.Pre_sizes_split_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_split_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_split_tokens : Cert.Pre_sizes_split_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_split_tokens : Cert.Pre_sizes_split_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_split_tokens [hReferenceIdeal : Cert.ReferenceIdeal.Facts] [hPre_sizes_split_tokens : Cert.Pre_sizes_split_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_split_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_split_tokens : Cert.Pre_sizes_split_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_split_tokens : Cert.Pre_sizes_split_tokens.Facts),
    quiescent_Kernel (hKernel := hKernel) (hPre_sizes_split_tokens := hPre_sizes_split_tokens)
    ∧ quiescent_KernelIdeal (hKernelIdeal := hKernelIdeal) (hPre_sizes_split_tokens := hPre_sizes_split_tokens)
    ∧ quiescent_ReferenceIdeal (hReferenceIdeal := hReferenceIdeal)
    ∧ quiescent_ReferenceIdeal_pre_sizes_split_tokens (hReferenceIdeal := hReferenceIdeal) (hPre_sizes_split_tokens := hPre_sizes_split_tokens)
    ∧ preserves_Kernel_KernelIdeal
    ∧ algebraic_KernelIdeal_ReferenceIdeal (hKernelIdeal := hKernelIdeal) (hReferenceIdeal := hReferenceIdeal) (hPre_sizes_split_tokens := hPre_sizes_split_tokens)
-- ==== Pre_sizes_split_tokens.lean ====
abbrev S98304x4096 : Shape := ⟨2, ![98304, 4096]⟩
abbrev S98304x1 : Shape := ⟨2, ![98304, 1]⟩
abbrev S8 : Shape := ⟨1, ![8]⟩
abbrev S8x4096x3072 : Shape := ⟨3, ![8, 4096, 3072]⟩
abbrev S8x3072 : Shape := ⟨2, ![8, 3072]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S98304x4096 .fp8e4m3) (main_arg1 : FVec F S98304x1 .f32) (main_arg2 : IVec S8 32) (main_arg3 : FVec F S8x4096x3072 .fp8e4m3) (main_arg4 : FVec F S8x3072 .f32) : IVec S8 1 :=
  let main_c : IVec S_ 32 := constantI S_ 32 0#32
  let main_v0 : IVec S8 32 := broadcastInDim S8 ![] bcast_S_S8 main_c
  let main_v1 : IVec S8 1 := cmpi .sge main_arg2 main_v0
  let main_c_0 : IVec S_ 32 := constantI S_ 32 98304#32
  let main_v2 : IVec S8 32 := broadcastInDim S8 ![] bcast_S_S8 main_c_0
  let main_v3 : IVec S8 1 := cmpi .sle main_arg2 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg2 main_c_1
  let main_c_2 : IVec S_ 32 := constantI S_ 32 98304#32
  let main_v6 : IVec S_ 1 := cmpi .eq main_v5 main_c_2
  let main_v7 : IVec S8 1 := broadcastInDim S8 ![] bcast_S_S8 main_v6
  let main_v8 : IVec S8 1 := andi main_v4 main_v7
  main_v8
-- ==== Kernel.lean ====
abbrev S98304x4096 : Shape := ⟨2, ![98304, 4096]⟩
abbrev S98304x1 : Shape := ⟨2, ![98304, 1]⟩
abbrev S8 : Shape := ⟨1, ![8]⟩
abbrev S8x4096x3072 : Shape := ⟨3, ![8, 4096, 3072]⟩
abbrev S8x3072 : Shape := ⟨2, ![8, 3072]⟩
abbrev S_ : Shape := ⟨0, ![]⟩
abbrev S199 : Shape := ⟨1, ![199]⟩
abbrev S1 : Shape := ⟨1, ![1]⟩
abbrev S1x199 : Shape := ⟨2, ![1, 199]⟩
abbrev S8x1 : Shape := ⟨2, ![8, 1]⟩
abbrev S8x199 : Shape := ⟨2, ![8, 199]⟩
abbrev S199x1 : Shape := ⟨2, ![199, 1]⟩
abbrev S198 : Shape := ⟨1, ![198]⟩
abbrev S8x1x3072 : Shape := ⟨3, ![8, 1, 3072]⟩
abbrev S98304x3072 : Shape := ⟨2, ![98304, 3072]⟩
abbrev S512x4096 : Shape := ⟨2, ![512, 4096]⟩
abbrev S512x1 : Shape := ⟨2, ![512, 1]⟩
abbrev S1x4096x3072 : Shape := ⟨3, ![1, 4096, 3072]⟩
abbrev S1x1x3072 : Shape := ⟨3, ![1, 1, 3072]⟩
abbrev S512x3072 : Shape := ⟨2, ![512, 3072]⟩
abbrev S1x4096x512 : Shape := ⟨3, ![1, 4096, 512]⟩
abbrev S4096x512 : Shape := ⟨2, ![4096, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 114
  | .vmem => 10
  | .smem => 6
  | _ => 0

abbrev bufTy : (tb : Table) → Fin (tcTables nBuf tb) → BufTy
  | .hbm, ⟨0, _⟩ => ⟨S98304x4096, .fp8e4m3⟩
  | .hbm, ⟨1, _⟩ => ⟨S98304x1, .f32⟩
  | .hbm, ⟨2, _⟩ => ⟨S8, .i32⟩
  | .hbm, ⟨3, _⟩ => ⟨S8x4096x3072, .fp8e4m3⟩
  | .hbm, ⟨4, _⟩ => ⟨S8x3072, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S8, .i1⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S8, .i32⟩
  | .hbm, ⟨36, _⟩ => ⟨S_, .i32⟩
  | .hbm, ⟨37, _⟩ => ⟨S8, .i32⟩
  | .hbm, ⟨38, _⟩ => ⟨S8, .i1⟩
  | .hbm, ⟨39, _⟩ => ⟨S8, .i32⟩
  | .hbm, ⟨40, _⟩ => ⟨S8, .i32⟩
  | .hbm, ⟨41, _⟩ => ⟨S_, .i32⟩
  | .hbm, ⟨42, _⟩ => ⟨S8, .i32⟩
  | .hbm, ⟨43, _⟩ => ⟨S8, .i1⟩
  | .hbm, ⟨44, _⟩ => ⟨S8, .i1⟩
  | .hbm, ⟨45, _⟩ => ⟨S_, .i32⟩
  | .hbm, ⟨46, _⟩ => ⟨S8, .i32⟩
  | .hbm, ⟨47, _⟩ => ⟨S8, .i32⟩
  | .hbm, ⟨48, _⟩ => ⟨S8, .i32⟩
  | .hbm, ⟨49, _⟩ => ⟨S8, .i32⟩
  | .hbm, ⟨50, _⟩ => ⟨S_, .i32⟩
  | .hbm, ⟨51, _⟩ => ⟨S8, .i32⟩
  | .hbm, ⟨52, _⟩ => ⟨S8, .i32⟩
  | .hbm, ⟨53, _⟩ => ⟨S_, .i32⟩
  | .hbm, ⟨54, _⟩ => ⟨S_, .i32⟩
  | .hbm, ⟨55, _⟩ => ⟨S8, .i32⟩
  | .hbm, ⟨56, _⟩ => ⟨S8, .i32⟩
  | .hbm, ⟨57, _⟩ => ⟨S_, .i32⟩
  | .hbm, ⟨58, _⟩ => ⟨S_, .i32⟩
  | .hbm, ⟨59, _⟩ => ⟨S8, .i32⟩
  | .hbm, ⟨60, _⟩ => ⟨S199, .i32⟩
  | .hbm, ⟨61, _⟩ => ⟨S1, .i32⟩
  | .hbm, ⟨62, _⟩ => ⟨S_, .i32⟩
  | .hbm, ⟨63, _⟩ => ⟨S199, .i32⟩
  | .hbm, ⟨64, _⟩ => ⟨S199, .i1⟩
  | .hbm, ⟨65, _⟩ => ⟨S1, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S199, .i32⟩
  | .hbm, ⟨70, _⟩ => ⟨S199, .i32⟩
  | .hbm, ⟨71, _⟩ => ⟨S1x199, .i32⟩
  | .hbm, ⟨72, _⟩ => ⟨S8x1, .i32⟩
  | .hbm, ⟨73, _⟩ => ⟨S8x199, .i32⟩
  | .hbm, ⟨74, _⟩ => ⟨S8x199, .i32⟩
  | .hbm, ⟨75, _⟩ => ⟨S8x199, .i1⟩
  | .hbm, ⟨76, _⟩ => ⟨S8x199, .i32⟩
  | .hbm, ⟨77, _⟩ => ⟨S_, .i32⟩
  | .hbm, ⟨78, _⟩ => ⟨S199, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S199, .i32⟩
  | .hbm, ⟨83, _⟩ => ⟨S199, .i32⟩
  | .hbm, ⟨84, _⟩ => ⟨S_, .i32⟩
  | .hbm, ⟨85, _⟩ => ⟨S199, .i32⟩
  | .hbm, ⟨86, _⟩ => ⟨S_, .i32⟩
  | .hbm, ⟨87, _⟩ => ⟨S199, .i32⟩
  | .hbm, ⟨88, _⟩ => ⟨S199, .i1⟩
  | .hbm, ⟨89, _⟩ => ⟨S_, .i32⟩
  | .hbm, ⟨90, _⟩ => ⟨S199, .i32⟩
  | .hbm, ⟨91, _⟩ => ⟨S199, .i32⟩
  | .hbm, ⟨92, _⟩ => ⟨S199, .i32⟩
  | .hbm, ⟨93, _⟩ => ⟨S199x1, .i32⟩
  | .hbm, ⟨94, _⟩ => ⟨S199, .i32⟩
  | .hbm, ⟨95, _⟩ => ⟨S199, .i32⟩
  | .hbm, ⟨96, _⟩ => ⟨S8, .i32⟩
  | .hbm, ⟨97, _⟩ => ⟨S_, .i32⟩
  | .hbm, ⟨98, _⟩ => ⟨S199, .i32⟩
  | .hbm, ⟨99, _⟩ => ⟨S199, .i1⟩
  | .hbm, ⟨100, _⟩ => ⟨S_, .i32⟩
  | .hbm, ⟨101, _⟩ => ⟨S199, .i32⟩
  | .hbm, ⟨102, _⟩ => ⟨S199, .i32⟩
  | .hbm, ⟨103, _⟩ => ⟨S199, .i32⟩
  | .hbm, ⟨104, _⟩ => ⟨S199x1, .i32⟩
  | .hbm, ⟨105, _⟩ => ⟨S199, .i32⟩
  | .hbm, ⟨106, _⟩ => ⟨S_, .i1⟩
  | .hbm, ⟨107, _⟩ => ⟨S1, .i1⟩
  | .hbm, ⟨108, _⟩ => ⟨S198, .i32⟩
  | .hbm, ⟨109, _⟩ => ⟨S198, .i32⟩
  | .hbm, ⟨110, _⟩ => ⟨S198, .i1⟩
  | .hbm, ⟨111, _⟩ => ⟨S199, .i1⟩
  | .hbm, ⟨112, _⟩ => ⟨S8x1x3072, .f32⟩
  | .hbm, ⟨113, _⟩ => ⟨S98304x3072, .bf16⟩
  | .local _ .vmem, ⟨0, _⟩ => ⟨S512x4096, .fp8e4m3⟩
  | .local _ .vmem, ⟨1, _⟩ => ⟨S512x4096, .fp8e4m3⟩
  | .local _ .vmem, ⟨2, _⟩ => ⟨S512x1, .f32⟩
  | .local _ .vmem, ⟨3, _⟩ => ⟨S512x1, .f32⟩
  | .local _ .vmem, ⟨4, _⟩ => ⟨S1x4096x3072, .fp8e4m3⟩
  | .local _ .vmem, ⟨5, _⟩ => ⟨S1x4096x3072, .fp8e4m3⟩
  | .local _ .vmem, ⟨6, _⟩ => ⟨S1x1x3072, .f32⟩
  | .local _ .vmem, ⟨7, _⟩ => ⟨S1x1x3072, .f32⟩
  | .local _ .vmem, ⟨8, _⟩ => ⟨S512x3072, .bf16⟩
  | .local _ .vmem, ⟨9, _⟩ => ⟨S512x3072, .bf16⟩
  | .local _ .smem, ⟨0, _⟩ => ⟨S199, .i32⟩
  | .local _ .smem, ⟨1, _⟩ => ⟨S199, .i32⟩
  | .local _ .smem, ⟨2, _⟩ => ⟨S199, .i32⟩
  | .local _ .smem, ⟨3, _⟩ => ⟨S199, .i32⟩
  | .local _ .smem, ⟨4, _⟩ => ⟨S8, .i32⟩
  | .local _ .smem, ⟨5, _⟩ => ⟨S8, .i32⟩
  | _, _ => ⟨S98304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_c_2 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v7 : Ref sig .tc := ⟨.hbm, 48, rfl⟩
abbrev main_v8 : Ref sig .tc := ⟨.hbm, 49, rfl⟩
abbrev main_c_3 : Ref sig .tc := ⟨.hbm, 50, rfl⟩
abbrev main_v9 : Ref sig .tc := ⟨.hbm, 51, rfl⟩
abbrev main_v10 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_call4_call0_c : Ref sig .tc := ⟨.hbm, 57, rfl⟩
abbrev main_call4_call0_v0 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_c_5 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_call5_call0_v0 : Ref sig .tc := ⟨.hbm, 71, rfl⟩
abbrev main_call5_call0_v1 : Ref sig .tc := ⟨.hbm, 72, rfl⟩
abbrev main_call5_call0_v2 : Ref sig .tc := ⟨.hbm, 73, rfl⟩
abbrev main_call5_call0_v3 : Ref sig .tc := ⟨.hbm, 74, rfl⟩
abbrev main_call5_call0_v4 : Ref sig .tc := ⟨.hbm, 75, rfl⟩
abbrev main_call5_call0_v5 : Ref sig .tc := ⟨.hbm, 76, rfl⟩
abbrev main_call5_call0_c : Ref sig .tc := ⟨.hbm, 77, rfl⟩
abbrev main_v23 : Ref sig .tc := ⟨.hbm, 78, rfl⟩
abbrev main_c_6 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_c_8 : Ref sig .tc := ⟨.hbm, 86, rfl⟩
abbrev main_v25 : Ref sig .tc := ⟨.hbm, 87, rfl⟩
abbrev main_v26 : Ref sig .tc := ⟨.hbm, 88, rfl⟩
abbrev main_c_9 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_c_10 : Ref sig .tc := ⟨.hbm, 97, rfl⟩
abbrev main_v34 : Ref sig .tc := ⟨.hbm, 98, rfl⟩
abbrev main_v35 : Ref sig .tc := ⟨.hbm, 99, rfl⟩
abbrev main_c_11 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_c_12 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v49 : Ref sig .tc := ⟨.hbm, 112, rfl⟩
abbrev main_v50 : Ref sig .tc := ⟨.hbm, 113, rfl⟩
abbrev main_v24 : Ref sig .tc := ⟨.smem, 0, rfl⟩
abbrev main_v41 : Ref sig .tc := ⟨.smem, 1, rfl⟩
abbrev main_v47 : Ref sig .tc := ⟨.smem, 2, rfl⟩
abbrev main_v48 : Ref sig .tc := ⟨.smem, 3, rfl⟩
abbrev main_v1 : Ref sig .tc := ⟨.smem, 4, rfl⟩
abbrev main_v0 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![199], ![false]⟩

abbrev pre0 : Pipeline.Prefetch sig := ⟨6, ![main_v24.idx, main_v41.idx, main_v47.idx, main_v48.idx, main_v1.idx, main_v0.idx], fun | 0 => main_v24.names | 1 => main_v41.names | 2 => main_v47.names | 3 => main_v48.names | 4 => main_v1.names | 5 => main_v0.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 1 → Nat :=
  let v5 : Index := Scalar.indexCast v1
  ![v5.toNat]

def k0_chk1 (v1 : BitVec 32) : Prop :=
  (∀ a, (k0_off2 v1) a + S1.size a ≤ S8.size a)
theorem k0_off2_inb : ∀ (v1 : BitVec 32) (k0_hw1 : k0_chk1 v1), ∀ a, (k0_off2 v1) a + S1.size a ≤ S8.size a := fun v1 k0_hw1 => k0_hw1

def k0_off3 (i : grid0.Coords) : Fin 1 → Nat :=
  let arg0 : BitVec 32 := BitVec.ofNat 32 (i 0).val
  let v14 : Index := Scalar.indexCast arg0
  ![v14.toNat]
def k0_off4 (i : grid0.Coords) : Fin 1 → Nat :=
  let arg0 : BitVec 32 := BitVec.ofNat 32 (i 0).val
  let v20 : Index := Scalar.indexCast arg0
  ![v20.toNat]
def k0_off5 (i : grid0.Coords) : Fin 1 → Nat :=
  let arg0 : BitVec 32 := BitVec.ofNat 32 (i 0).val
  let v33 : Index := Scalar.indexCast arg0
  ![v33.toNat]
def k0_cond1 (v3 : BitVec 32) (v6 : BitVec 32) (v9 : BitVec 32) (v15 : BitVec 32) : BitVec 1 :=
  let c1_i32 : BitVec 32 := 1#32
  let v16 : BitVec 1 := Scalar.cmpi .eq v15 c1_i32
  let c512_i32 : BitVec 32 := 512#32
  let v4 : BitVec 32 := Scalar.muli v3 c512_i32
  let v7 : BitVec 32 := Scalar.subi v6 v4
  let c0_i32 : BitVec 32 := 0#32
  let v11 : BitVec 1 := Scalar.cmpi .sle v7 c0_i32
  let v10 : BitVec 32 := Scalar.subi v9 v4
  let c512_i32_0 : BitVec 32 := 512#32
  let v12 : BitVec 1 := Scalar.cmpi .sge v10 c512_i32_0
  let v13 : BitVec 1 := Scalar.andi v11 v12
  let v17 : BitVec 1 := Scalar.andi v16 v13
  let v18 : BitVec 32 := Scalar.extui v17
  let c0_i32_1 : BitVec 32 := 0#32
  let v19 : BitVec 1 := Scalar.cmpi .ne v18 c0_i32_1
  v19

def k0_cond2 (v3 : BitVec 32) (v6 : BitVec 32) (v9 : BitVec 32) (v21 : BitVec 32) : BitVec 1 :=
  let c1_i32_2 : BitVec 32 := 1#32
  let v22 : BitVec 1 := Scalar.cmpi .eq v21 c1_i32_2
  let c512_i32 : BitVec 32 := 512#32
  let v4 : BitVec 32 := Scalar.muli v3 c512_i32
  let v7 : BitVec 32 := Scalar.subi v6 v4
  let c0_i32 : BitVec 32 := 0#32
  let v11 : BitVec 1 := Scalar.cmpi .sle v7 c0_i32
  let v10 : BitVec 32 := Scalar.subi v9 v4
  let c512_i32_0 : BitVec 32 := 512#32
  let v12 : BitVec 1 := Scalar.cmpi .sge v10 c512_i32_0
  let v13 : BitVec 1 := Scalar.andi v11 v12
  let v_true : BitVec 1 := 1#1
  let v23 : BitVec 1 := Scalar.xori v13 v_true
  let v24 : BitVec 1 := Scalar.andi v22 v23
  let v25 : BitVec 32 := Scalar.extui v24
  let c0_i32_3 : BitVec 32 := 0#32
  let v26 : BitVec 1 := Scalar.cmpi .ne v25 c0_i32_3
  v26

def cc0_transform_0 (k0_off1_inb : ∀ i : grid0.Coords, ∀ a, (k0_off1 i) a + S1.size a ≤ S199.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S199) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S199.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S199) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S199.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S199) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S199.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S199) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S199.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S199) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S98304x4096 : Shape := ⟨2, ![98304, 4096]⟩
abbrev S98304x1 : Shape := ⟨2, ![98304, 1]⟩
abbrev S8 : Shape := ⟨1, ![8]⟩
abbrev S8x4096x3072 : Shape := ⟨3, ![8, 4096, 3072]⟩
abbrev S8x3072 : Shape := ⟨2, ![8, 3072]⟩
abbrev S_ : Shape := ⟨0, ![]⟩
abbrev S98304 : Shape := ⟨1, ![98304]⟩
abbrev S1x98304 : Shape := ⟨2, ![1, 98304]⟩
abbrev S8x1 : Shape := ⟨2, ![8, 1]⟩
abbrev S8x98304 : Shape := ⟨2, ![8, 98304]⟩
abbrev S98304x3072 : Shape := ⟨2, ![98304, 3072]⟩
abbrev S1x4096x3072 : Shape := ⟨3, ![1, 4096, 3072]⟩
abbrev S4096x3072 : Shape := ⟨2, ![4096, 3072]⟩

abbrev nBuf : Space → Nat
  | .hbm => 114
  | .vmem => 4
  | .smem => 0
  | _ => 0

abbrev bufTy : (tb : Table) → Fin (tcTables nBuf tb) → BufTy
  | .hbm, ⟨0, _⟩ => ⟨S98304x4096, .fp8e4m3⟩
  | .hbm, ⟨1, _⟩ => ⟨S98304x1, .f32⟩
  | .hbm, ⟨2, _⟩ => ⟨S8, .i32⟩
  | .hbm, ⟨3, _⟩ => ⟨S8x4096x3072, .fp8e4m3⟩
  | .hbm, ⟨4, _⟩ => ⟨S8x3072, .f32⟩
  | .hbm, ⟨5, _⟩ => ⟨S98304x4096, .f32⟩
  | .hbm, ⟨6, _⟩ => ⟨S8x4096x3072, .f32⟩
  | .hbm, ⟨7, _⟩ => ⟨S_, .i32⟩
  | .hbm, ⟨8, _⟩ => ⟨S_, .i32⟩
  | .hbm, ⟨9, _⟩ => ⟨S8, .i32⟩
  | .hbm, ⟨10, _⟩ => ⟨S98304, .i32⟩
  | .hbm, ⟨11, _⟩ => ⟨S1x98304, .i32⟩
  | .hbm, ⟨12, _⟩ => ⟨S8x1, .i32⟩
  | .hbm, ⟨13, _⟩ => ⟨S8x98304, .i32⟩
  | .hbm, ⟨14, _⟩ => ⟨S8x98304, .i32⟩
  | .hbm, ⟨15, _⟩ => ⟨S8x98304, .i1⟩
  | .hbm, ⟨16, _⟩ => ⟨S8x98304, .i32⟩
  | .hbm, ⟨17, _⟩ => ⟨S_, .i32⟩
  | .hbm, ⟨18, _⟩ => ⟨S98304, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S98304, .i32⟩
  | .hbm, ⟨23, _⟩ => ⟨S98304, .i32⟩
  | .hbm, ⟨24, _⟩ => ⟨S_, .i32⟩
  | .hbm, ⟨25, _⟩ => ⟨S98304, .i32⟩
  | .hbm, ⟨26, _⟩ => ⟨S98304, .i32⟩
  | .hbm, ⟨27, _⟩ => ⟨S_, .f32⟩
  | .hbm, ⟨28, _⟩ => ⟨S98304x3072, .f32⟩
  | .hbm, ⟨29, _⟩ => ⟨S1x4096x3072, .f32⟩
  | .hbm, ⟨30, _⟩ => ⟨S4096x3072, .f32⟩
  | .hbm, ⟨31, _⟩ => ⟨S98304x3072, .f32⟩
  | .hbm, ⟨32, _⟩ => ⟨S98304x1, .i32⟩
  | .hbm, ⟨33, _⟩ => ⟨S_, .i32⟩
  | .hbm, ⟨34, _⟩ => ⟨S98304x1, .i32⟩
  | .hbm, ⟨35, _⟩ => ⟨S98304x1, .i1⟩
  | .hbm, ⟨36, _⟩ => ⟨S98304x3072, .i1⟩
  | .hbm, ⟨37, _⟩ => ⟨S98304x3072, .f32⟩
  | .hbm, ⟨38, _⟩ => ⟨S1x4096x3072, .f32⟩
  | .hbm, ⟨39, _⟩ => ⟨S4096x3072, .f32⟩
  | .hbm, ⟨40, _⟩ => ⟨S98304x3072, .f32⟩
  | .hbm, ⟨41, _⟩ => ⟨S98304x1, .i32⟩
  | .hbm, ⟨42, _⟩ => ⟨S_, .i32⟩
  | .hbm, ⟨43, _⟩ => ⟨S98304x1, .i32⟩
  | .hbm, ⟨44, _⟩ => ⟨S98304x1, .i1⟩
  | .hbm, ⟨45, _⟩ => ⟨S98304x3072, .i1⟩
  | .hbm, ⟨46, _⟩ => ⟨S98304x3072, .f32⟩
  | .hbm, ⟨47, _⟩ => ⟨S1x4096x3072, .f32⟩
  | .hbm, ⟨48, _⟩ => ⟨S4096x3072, .f32⟩
  | .hbm, ⟨49, _⟩ => ⟨S98304x3072, .f32⟩
  | .hbm, ⟨50, _⟩ => ⟨S98304x1, .i32⟩
  | .hbm, ⟨51, _⟩ => ⟨S_, .i32⟩
  | .hbm, ⟨52, _⟩ => ⟨S98304x1, .i32⟩
  | .hbm, ⟨53, _⟩ => ⟨S98304x1, .i1⟩
  | .hbm, ⟨54, _⟩ => ⟨S98304x3072, .i1⟩
  | .hbm, ⟨55, _⟩ => ⟨S98304x3072, .f32⟩
  | .hbm, ⟨56, _⟩ => ⟨S1x4096x3072, .f32⟩
  | .hbm, ⟨57, _⟩ => ⟨S4096x3072, .f32⟩
  | .hbm, ⟨58, _⟩ => ⟨S98304x3072, .f32⟩
  | .hbm, ⟨59, _⟩ => ⟨S98304x1, .i32⟩
  | .hbm, ⟨60, _⟩ => ⟨S_, .i32⟩
  | .hbm, ⟨61, _⟩ => ⟨S98304x1, .i32⟩
  | .hbm, ⟨62, _⟩ => ⟨S98304x1, .i1⟩
  | .hbm, ⟨63, _⟩ => ⟨S98304x3072, .i1⟩
  | .hbm, ⟨64, _⟩ => ⟨S98304x3072, .f32⟩
  | .hbm, ⟨65, _⟩ => ⟨S1x4096x3072, .f32⟩
  | .hbm, ⟨66, _⟩ => ⟨S4096x3072, .f32⟩
  | .hbm, ⟨67, _⟩ => ⟨S98304x3072, .f32⟩
  | .hbm, ⟨68, _⟩ => ⟨S98304x1, .i32⟩
  | .hbm, ⟨69, _⟩ => ⟨S_, .i32⟩
  | .hbm, ⟨70, _⟩ => ⟨S98304x1, .i32⟩
  | .hbm, ⟨71, _⟩ => ⟨S98304x1, .i1⟩
  | .hbm, ⟨72, _⟩ => ⟨S98304x3072, .i1⟩
  | .hbm, ⟨73, _⟩ => ⟨S98304x3072, .f32⟩
  | .hbm, ⟨74, _⟩ => ⟨S1x4096x3072, .f32⟩
  | .hbm, ⟨75, _⟩ => ⟨S4096x3072, .f32⟩
  | .hbm, ⟨76, _⟩ => ⟨S98304x3072, .f32⟩
  | .hbm, ⟨77, _⟩ => ⟨S98304x1, .i32⟩
  | .hbm, ⟨78, _⟩ => ⟨S_, .i32⟩
  | .hbm, ⟨79, _⟩ => ⟨S98304x1, .i32⟩
  | .hbm, ⟨80, _⟩ => ⟨S98304x1, .i1⟩
  | .hbm, ⟨81, _⟩ => ⟨S98304x3072, .i1⟩
  | .hbm, ⟨82, _⟩ => ⟨S98304x3072, .f32⟩
  | .hbm, ⟨83, _⟩ => ⟨S1x4096x3072, .f32⟩
  | .hbm, ⟨84, _⟩ => ⟨S4096x3072, .f32⟩
  | .hbm, ⟨85, _⟩ => ⟨S98304x3072, .f32⟩
  | .hbm, ⟨86, _⟩ => ⟨S98304x1, .i32⟩
  | .hbm, ⟨87, _⟩ => ⟨S_, .i32⟩
  | .hbm, ⟨88, _⟩ => ⟨S98304x1, .i32⟩
  | .hbm, ⟨89, _⟩ => ⟨S98304x1, .i1⟩
  | .hbm, ⟨90, _⟩ => ⟨S98304x3072, .i1⟩
  | .hbm, ⟨91, _⟩ => ⟨S98304x3072, .f32⟩
  | .hbm, ⟨92, _⟩ => ⟨S1x4096x3072, .f32⟩
  | .hbm, ⟨93, _⟩ => ⟨S4096x3072, .f32⟩
  | .hbm, ⟨94, _⟩ => ⟨S98304x3072, .f32⟩
  | .hbm, ⟨95, _⟩ => ⟨S98304x1, .i32⟩
  | .hbm, ⟨96, _⟩ => ⟨S_, .i32⟩
  | .hbm, ⟨97, _⟩ => ⟨S98304x1, .i32⟩
  | .hbm, ⟨98, _⟩ => ⟨S98304x1, .i1⟩
  | .hbm, ⟨99, _⟩ => ⟨S98304x3072, .i1⟩
  | .hbm, ⟨100, _⟩ => ⟨S98304x3072, .f32⟩
  | .hbm, ⟨101, _⟩ => ⟨S98304x3072, .f32⟩
  | .hbm, ⟨102, _⟩ => ⟨S98304x3072, .f32⟩
  | .hbm, ⟨103, _⟩ => ⟨S_, .i32⟩
  | .hbm, ⟨104, _⟩ => ⟨S98304, .i32⟩
  | .hbm, ⟨105, _⟩ => ⟨S98304, .i1⟩
  | .hbm, ⟨106, _⟩ => ⟨S_, .i32⟩
  | .hbm, ⟨107, _⟩ => ⟨S98304, .i32⟩
  | .hbm, ⟨108, _⟩ => ⟨S98304, .i32⟩
  | .hbm, ⟨109, _⟩ => ⟨S98304, .i32⟩
  | .hbm, ⟨110, _⟩ => ⟨S98304x1, .i32⟩
  | .hbm, ⟨111, _⟩ => ⟨S98304x3072, .f32⟩
  | .hbm, ⟨112, _⟩ => ⟨S98304x3072, .f32⟩
  | .hbm, ⟨113, _⟩ => ⟨S98304x3072, .bf16⟩
  | .local _ .vmem, ⟨0, _⟩ => ⟨S98304x4096, .fp8e4m3⟩
  | .local _ .vmem, ⟨1, _⟩ => ⟨S8x4096x3072, .fp8e4m3⟩
  | .local _ .vmem, ⟨2, _⟩ => ⟨S98304x4096, .f32⟩
  | .local _ .vmem, ⟨3, _⟩ => ⟨S8x4096x3072, .f32⟩
  | _, _ => ⟨S98304x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_c : Ref sig .tc := ⟨.hbm, 17, rfl⟩
abbrev main_v3 : Ref sig .tc := ⟨.hbm, 18, rfl⟩
abbrev main_c : Ref sig .tc := ⟨.hbm, 19, rfl⟩
abbrev main_c_0 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_call3_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_call4_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_3 : Ref sig .tc := ⟨.hbm, 51, rfl⟩
abbrev main_v24 : Ref sig .tc := ⟨.hbm, 52, rfl⟩
abbrev main_v25 : Ref sig .tc := ⟨.hbm, 53, rfl⟩
abbrev main_call5_v0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_4 : Ref sig .tc := ⟨.hbm, 60, rfl⟩
abbrev main_v31 : Ref sig .tc := ⟨.hbm, 61, rfl⟩
abbrev main_v32 : Ref sig .tc := ⟨.hbm, 62, rfl⟩
abbrev main_call6_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_5 : Ref sig .tc := ⟨.hbm, 69, rfl⟩
abbrev main_v38 : Ref sig .tc := ⟨.hbm, 70, rfl⟩
abbrev main_v39 : Ref sig .tc := ⟨.hbm, 71, rfl⟩
abbrev main_call7_v0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_6 : Ref sig .tc := ⟨.hbm, 78, rfl⟩
abbrev main_v45 : Ref sig .tc := ⟨.hbm, 79, rfl⟩
abbrev main_v46 : Ref sig .tc := ⟨.hbm, 80, rfl⟩
abbrev main_call8_v0 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_7 : Ref sig .tc := ⟨.hbm, 87, rfl⟩
abbrev main_v52 : Ref sig .tc := ⟨.hbm, 88, rfl⟩
abbrev main_v53 : Ref sig .tc := ⟨.hbm, 89, rfl⟩
abbrev main_call9_v0 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_c_8 : Ref sig .tc := ⟨.hbm, 96, rfl⟩
abbrev main_v59 : Ref sig .tc := ⟨.hbm, 97, rfl⟩
abbrev main_v60 : Ref sig .tc := ⟨.hbm, 98, rfl⟩
abbrev main_call10_v0 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_9 : Ref sig .tc := ⟨.hbm, 103, rfl⟩
abbrev main_v64 : Ref sig .tc := ⟨.hbm, 104, rfl⟩
abbrev main_v65 : Ref sig .tc := ⟨.hbm, 105, rfl⟩
abbrev main_c_10 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S98304x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S98304x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Sched.lean ====
/-
The schedule of the grid, in numbers.

`g e` is the number of tokens of expert `e`; expert `e` owns the rows `S g e ≤ i < E g e`. An expert with tokens visits the
`nb g e` blocks of 512 rows that its rows meet, so there are `tot g` steps in all. Step `s` (a step past the last one repeats the last
one) belongs to expert `ex g s` and to block `bk g s`.
-/
module
public import Mathlib.Algebra.BigOperators.Fin
public import Mathlib.Tactic.Linarith
public import Mathlib.Order.Monotone.Basic
public import Mathlib.Data.Finset.Max

@[expose] public section

namespace Cert.Sched

/-- Rows before expert `e`, and rows up to and including it. -/
def S (g : ℕ → ℕ) (e : ℕ) : ℕ := ∑ k ∈ Finset.range e, g k
def E (g : ℕ → ℕ) (e : ℕ) : ℕ := S g (e + 1)
/-- The number of blocks expert `e` visits. -/
def nb (g : ℕ → ℕ) (e : ℕ) : ℕ := if 0 < g e then (E g e - 1) / 512 - S g e / 512 + 1 else 0
/-- Steps before expert `e`, and the number of all steps. -/
def T (g : ℕ → ℕ) (e : ℕ) : ℕ := ∑ k ∈ Finset.range e, nb g k
def tot (g : ℕ → ℕ) : ℕ := T g 8
/-- A step past the last repeats the last. -/
def st (g : ℕ → ℕ) (s : ℕ) : ℕ := min s (tot g - 1)
/-- The expert of step `s`: as many experts as have finished by then. -/
def ex (g : ℕ → ℕ) (s : ℕ) : ℕ := ∑ e ∈ Finset.range 8, if T g (e + 1) ≤ st g s then 1 else 0
/-- The block of step `s`. -/
def bk (g : ℕ → ℕ) (s : ℕ) : ℕ := S g (ex g s) / 512 + st g s - T g (ex g s)

variable {g : ℕ → ℕ}

theorem S_succ (e : ℕ) : S g (e + 1) = S g e + g e := Finset.sum_range_succ _ _
theorem E_eq (e : ℕ) : E g e = S g e + g e := S_succ e
theorem T_succ (e : ℕ) : T g (e + 1) = T g e + nb g e := Finset.sum_range_succ _ _

theorem S_mono : Monotone (S g) := monotone_nat_of_le_succ fun e => by rw [S_succ]; omega
theorem T_mono : Monotone (T g) := monotone_nat_of_le_succ fun e => by rw [T_succ]; omega

theorem nb_pos {e : ℕ} (h : 0 < g e) : nb g e = (E g e - 1) / 512 - S g e / 512 + 1 := if_pos h
theorem nb_zero {e : ℕ} (h : ¬ 0 < g e) : nb g e = 0 := if_neg h
theorem pos_of_nb {e : ℕ} (h : 0 < nb g e) : 0 < g e := by
  by_contra hn; rw [nb_zero hn] at h; omega

/-- An expert's first block is not after its last. -/
theorem first_le_last {e : ℕ} (h : 0 < g e) : S g e / 512 ≤ (E g e - 1) / 512 :=
  Nat.div_le_div_right (by rw [E_eq]; omega)

/-- Experts that take no step own no row. -/
theorem S_eq_of_T_eq {a b : ℕ} (hab : a ≤ b) (h : T g a = T g b) : S g a = S g b := by
  induction b, hab using Nat.le_induction with
  | base => rfl
  | succ b hb ih =>
    have h1 : T g a ≤ T g b := T_mono hb
    rw [T_succ] at h
    have h2 : nb g b = 0 := by omega
    have h3 : g b = 0 := by
      by_contra hne
      have h4 : 0 < g b := by omega
      rw [nb_pos h4] at h2; omega
    rw [S_succ, h3, ih (by omega)]; rfl

/-- The steps before expert `e` are at most the blocks up to its first row, one more for each expert. -/
theorem T_le (e : ℕ) : T g (e + 1) ≤ e + (S g (e + 1) + 511) / 512 := by
  induction e with
  | zero =>
    have h0 : T g 0 = 0 := rfl
    have h1 : S g 0 = 0 := rfl
    rw [T_succ, h0]
    by_cases h : 0 < g 0
    · rw [nb_pos h, E_eq, S_succ, h1]; omega
    · rw [nb_zero h]; omega
  | succ e ih =>
    rw [T_succ]
    have hS : S g (e + 1 + 1) = S g (e + 1) + g (e + 1) := S_succ _
    by_cases h : 0 < g (e + 1)
    · rw [nb_pos h, E_eq, hS]; omega
    · rw [nb_zero h, hS]; omega

section Facts

variable (hsum : S g 8 = 98304)
include hsum

theorem tot_pos : 0 < tot g := by
  by_contra h
  have h1 : T g 0 = T g 8 := by
    have : T g 0 = 0 := rfl
    unfold tot at h; omega
  have h2 := S_eq_of_T_eq (g := g) (a := 0) (b := 8) (by omega) h1
  have h3 : S g 0 = 0 := rfl
  omega

theorem tot_le : tot g ≤ 199 := by
  have h := T_le (g := g) 7
  rw [show 7 + 1 = 8 from rfl, hsum] at h
  unfold tot
  omega

theorem st_lt (s : ℕ) : st g s < tot g := by
  have := tot_pos hsum
  unfold st; omega

/-- The expert of a step is the one whose steps it is among. -/
theorem ex_spec (s : ℕ) : ex g s < 8 ∧ T g (ex g s) ≤ st g s ∧ st g s < T g (ex g s + 1) := by
  have hlt : st g s < T g (7 + 1) := st_lt hsum s
  have hex : ∃ e, st g s < T g (e + 1) := ⟨7, hlt⟩
  classical
  have hf := Nat.find_spec hex
  have hf7 : Nat.find hex ≤ 7 := Nat.find_min' hex hlt
  have hmin : ∀ e < Nat.find hex, T g (e + 1) ≤ st g s := fun e he => not_lt.mp (Nat.find_min hex he)
  have hcount : ex g s = Nat.find hex := by
    unfold ex
    rw [← Finset.card_filter]
    rw [show (Finset.range 8).filter (fun e => T g (e + 1) ≤ st g s) = Finset.range (Nat.find hex) from ?_, Finset.card_range]
    ext e
    simp only [Finset.mem_filter, Finset.mem_range]
    constructor
    · rintro ⟨_, h⟩
      by_contra hne
      have : T g (Nat.find hex + 1) ≤ T g (e + 1) := T_mono (by omega)
      omega
    · intro h
      exact ⟨by omega, hmin e h⟩
  rw [hcount]
  refine ⟨by omega, ?_, hf⟩
  rcases Nat.eq_zero_or_pos (Nat.find hex) with h0 | h0
  · rw [h0]; exact Nat.zero_le _
  · have := hmin (Nat.find hex - 1) (by omega)
    rwa [show Nat.find hex - 1 + 1 = Nat.find hex by omega] at this

theorem ex_lt (s : ℕ) : ex g s < 8 := (ex_spec hsum s).1

theorem ex_pos (s : ℕ) : 0 < g (ex g s) := by
  obtain ⟨_, h1, h2⟩ := ex_spec hsum s
  rw [T_succ] at h2
  exact pos_of_nb (by omega)

theorem E_le (e : ℕ) (he : e < 8) : E g e ≤ 98304 := by
  have : S g (e + 1) ≤ S g 8 := S_mono (by omega)
  unfold E; omega

/-- The block of a step lies between its expert's first and last. -/
theorem bk_spec (s : ℕ) : bk g s + T g (ex g s) = S g (ex g s) / 512 + st g s
    ∧ S g (ex g s) / 512 ≤ bk g s ∧ bk g s ≤ (E g (ex g s) - 1) / 512 := by
  obtain ⟨_, h1, h2⟩ := ex_spec hsum s
  have hp := ex_pos hsum s
  have hfl := first_le_last hp
  rw [T_succ, nb_pos hp] at h2
  unfold bk
  omega

/-- A step's expert owns a row of its block. -/
theorem meets (s : ℕ) : S g (ex g s) < (bk g s + 1) * 512 ∧ bk g s * 512 < E g (ex g s) := by
  obtain ⟨_, h1, h2⟩ := bk_spec hsum s
  have hp := ex_pos hsum s
  have := E_eq (g := g) (ex g s)
  omega

theorem bk_lt (s : ℕ) : bk g s < 192 := by
  obtain ⟨_, h1, h2⟩ := bk_spec hsum s
  have := E_le hsum _ (ex_lt hsum s)
  omega

/-- From a step to the next: either the same expert goes on to its next block, or the next expert with tokens starts where this one ends. -/
theorem next (s : ℕ) (hs : s + 1 < tot g) :
    (ex g (s + 1) = ex g s ∧ bk g (s + 1) = bk g s + 1)
    ∨ (S g (ex g (s + 1)) = E g (ex g s) ∧ bk g s = (E g (ex g s) - 1) / 512 ∧ bk g (s + 1) = E g (ex g s) / 512) := by
  have e0 : st g s = s := by unfold st; omega
  have e1 : st g (s + 1) = s + 1 := by unfold st; omega
  obtain ⟨l0, a0, b0⟩ := ex_spec hsum s
  obtain ⟨l1, a1, b1⟩ := ex_spec hsum (s + 1)
  obtain ⟨c0, d0, f0⟩ := bk_spec hsum s
  obtain ⟨c1, d1, f1⟩ := bk_spec hsum (s + 1)
  rw [e0] at a0 b0 c0
  rw [e1] at a1 b1 c1
  by_cases h : s + 1 < T g (ex g s + 1)
  · left
    have hee : ex g (s + 1) = ex g s := by
      apply le_antisymm
      · by_contra hc
        have : T g (ex g s + 1) ≤ T g (ex g (s + 1)) := T_mono (by omega)
        omega
      · by_contra hc
        have : T g (ex g (s + 1) + 1) ≤ T g (ex g s) := T_mono (by omega)
        omega
    rw [hee] at c1
    exact ⟨hee, by omega⟩
  · right
    have hT : T g (ex g s + 1) = s + 1 := by omega
    have hle : ex g s + 1 ≤ ex g (s + 1) := by
      by_contra hc
      have : T g (ex g (s + 1) + 1) ≤ T g (ex g s + 1) := T_mono (by omega)
      omega
    have hT' : T g (ex g (s + 1)) = s + 1 := by
      have : T g (ex g s + 1) ≤ T g (ex g (s + 1)) := T_mono hle
      omega
    have hS : S g (ex g s + 1) = S g (ex g (s + 1)) := S_eq_of_T_eq hle (by omega)
    have hp := ex_pos hsum s
    have hTs := T_succ (g := g) (ex g s)
    rw [nb_pos hp] at hTs
    have hfl := first_le_last hp
    refine ⟨hS.symm, by omega, ?_⟩
    show _ = S g (ex g s + 1) / 512
    rw [hS]; omega

/-- The first step starts at row zero. -/
theorem first : S g (ex g 0) = 0 ∧ bk g 0 = 0 := by
  obtain ⟨l0, a0, b0⟩ := ex_spec hsum 0
  obtain ⟨c0, d0, f0⟩ := bk_spec hsum 0
  have e0 : st g 0 = 0 := by unfold st; omega
  have h : S g 0 = S g (ex g 0) := S_eq_of_T_eq (Nat.zero_le _) (by have : T g 0 = 0 := rfl; omega)
  have h0 : S g 0 = 0 := rfl
  rw [← h, h0] at c0 d0
  exact ⟨by omega, by omega⟩

/-- The last step ends at the last row. -/
theorem last (s : ℕ) (hs : tot g ≤ s + 1) : E g (ex g s) = 98304 ∧ bk g s = 191 := by
  obtain ⟨l0, a0, b0⟩ := ex_spec hsum s
  obtain ⟨c0, d0, f0⟩ := bk_spec hsum s
  have hpos := tot_pos hsum
  have e0 : st g s = tot g - 1 := by unfold st; omega
  have h1 : T g (ex g s + 1) ≤ T g 8 := T_mono (by omega)
  have h2 : T g 8 = tot g := rfl
  have hE : S g (ex g s + 1) = S g 8 := S_eq_of_T_eq (by omega) (by omega)
  have hE' : E g (ex g s) = 98304 := by show S g (ex g s + 1) = _; rw [hE, hsum]
  have hp := ex_pos hsum s
  have hTs := T_succ (g := g) (ex g s)
  rw [nb_pos hp] at hTs
  have hfl := first_le_last hp
  refine ⟨hE', ?_⟩
  rw [hE'] at hTs hfl f0
  omega

/-- Steps past the last repeat it. -/
theorem past (s : ℕ) (hs : tot g ≤ s + 1) : ex g (s + 1) = ex g s ∧ bk g (s + 1) = bk g s := by
  have hst : st g (s + 1) = st g s := by
    have := tot_pos hsum
    unfold st; omega
  have hex : ex g (s + 1) = ex g s := by unfold ex; rw [hst]
  exact ⟨hex, by unfold bk; rw [hex, hst]⟩

/-- From a step to the next the block stays or moves on by one. -/
theorem bk_step (s : ℕ) : bk g (s + 1) = bk g s ∨ bk g (s + 1) = bk g s + 1 := by
  by_cases hs : s + 1 < tot g
  · rcases next hsum s hs with ⟨_, h⟩ | ⟨_, h1, h2⟩
    · exact .inr h
    · have := meets hsum s; omega
  · exact .inl (past hsum s (by omega)).2

/-- Every block is visited, and its last step within the 199 leaves it complete. -/
theorem bk_mono : Monotone (bk g) := monotone_nat_of_le_succ fun s => by rcases bk_step hsum s with h | h <;> omega

theorem visited (b : ℕ) (hb : b < 192) : ∃ s, s < 199 ∧ bk g s = b ∧ (s + 1 < 199 → bk g (s + 1) ≠ b) := by
  classical
  have hl : bk g 198 = 191 := (last hsum 198 (by have := tot_le hsum; omega)).2
  have h0 : bk g 0 = 0 := (first hsum).2
  -- the steps with block at most `b`
  have hne : ((Finset.range 199).filter fun s => bk g s ≤ b).Nonempty :=
    ⟨0, by simp [h0]⟩
  obtain ⟨s, hs, hmax⟩ := Finset.exists_max_image _ id hne
  simp only [Finset.mem_filter, Finset.mem_range, id] at hs hmax
  have hgt : ∀ u, s < u → u < 199 → b < bk g u := fun u hu hu' => by
    by_contra hc
    have := hmax u ⟨hu', by omega⟩
    omega
  refine ⟨s, hs.1, ?_, fun h => by have := hgt (s + 1) (by omega) h; omega⟩
  by_cases hs' : s + 1 < 199
  · have := hgt (s + 1) (by omega) hs'
    rcases bk_step hsum s with h | h <;> omega
  · have : s = 198 := by omega
    subst this; omega

/-- When a block is left its last expert's rows reach its end. -/
theorem complete (s : ℕ) (h : s + 1 < 199 → bk g (s + 1) ≠ bk g s) : (bk g s + 1) * 512 ≤ E g (ex g s) := by
  by_cases hs : s + 1 < tot g
  · have hne := h (by have := tot_le hsum; omega)
    rcases next hsum s hs with ⟨hx, hb⟩ | ⟨hx, h1, h2⟩
    · have := (meets hsum (s + 1)).2
      rw [hx, hb] at this; omega
    · have := (meets hsum s).2; omega
  · obtain ⟨h1, h2⟩ := last hsum s (by omega)
    rw [h1, h2]

/-- A step that stays in the block starts where the step before ended. -/
theorem stay (s : ℕ) (hs : s + 1 < tot g) (h : bk g (s + 1) = bk g s) : S g (ex g (s + 1)) = E g (ex g s) := by
  rcases next hsum s hs with ⟨_, hb⟩ | ⟨hx, _, _⟩
  · omega
  · exact hx

/-- A step that enters a block has no row of it before its own. -/
theorem enter (s : ℕ) (h : s = 0 ∨ ∃ u, s = u + 1 ∧ u + 1 < tot g ∧ bk g (u + 1) ≠ bk g u) : S g (ex g s) ≤ bk g s * 512 := by
  rcases h with rfl | ⟨u, rfl, hs, hne⟩
  · rw [(first hsum).1]; exact Nat.zero_le _
  · rcases next hsum u hs with ⟨hx, hb⟩ | ⟨hx, h1, h2⟩
    · have := (meets hsum u).1
      rw [hx, hb]; exact this.le
    · rw [hx]
      have := (meets hsum u).2
      omega

end Facts

end Cert.Sched

end
-- ==== Proof.Kit.lean ====
/-
The kernel program up to its one pallas_call, in terms of the launch memory.

`V m c b` is what buffer `b` of core `c` holds when the grid starts: the launch memory after the host operations that
build the schedule. The six tables the grid prefetches are read off it (`tbl`), the windows' blocks are read off it
(`iblk`), and the staging buffers of the four inputs hold those blocks at every grid point (`before0_w_of`).
-/
module
public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the grid -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_call0_c, main_call0_call0_v0, main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_v1, main_c]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_c_0, main_v3, main_v4, main_c_1, main_v5, main_v6, main_c_2]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_v8, main_c_3, main_v9, main_v10, main_c_4]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_call3_v0, main_call3_v1, main_v11]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call4_call0_c, main_call4_call0_v0, main_v12]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_v13, main_v14, main_v15, main_v16, main_v17, main_v18, main_v19, main_c_5, main_v20, main_v21, main_v22]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call5_call0_v0, main_call5_call0_v1, main_call5_call0_v2, main_call5_call0_v3, main_call5_call0_v4, main_call5_call0_v5, main_call5_call0_c, main_v23]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_c_6, main_c_7]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_11_fresh : (hostOps0_11 : List (HloOp τ sig (Elt F))).Forall fun op => op.fresh = ∅ := by
  simp only [List.Forall]; repeat' constructor
/-- The reference each operation of `hostOps0_11` writes, in order. -/
abbrev hostOps0_11_W : List (Ref sig .tc) := [main_call6_v0, main_call6_v1, main_call6_v2, main_call6_v3, main_call6_v4, main_v24]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_12_fresh : (hostOps0_12 : List (HloOp τ sig (Elt F))).Forall fun op => op.fresh = ∅ := by
  simp only [List.Forall]; repeat' constructor
/-- The reference each operation of `hostOps0_12` writes, in order. -/
abbrev hostOps0_12_W : List (Ref sig .tc) := [main_c_8, main_v25, main_v26, main_c_9, main_v27, main_v28, main_v29, main_v30, main_v31, main_v32, main_v33, main_c_10, main_v34, main_v35, main_c_11, main_v36, main_v37, main_v38, main_v39, main_v40, main_v41, main_c_12, main_v42, main_v43, main_v44, main_v45, main_v46, main_v47, main_v48, main_v49]
theorem hostOps0_12_writes : (hostOps0_12 : List (HloOp τ sig (Elt F))).Forall fun op => op.writes ⊆ (hostOps0_12_W.map (Proc.devRef (τ := τ) .tc)).toFinset :=
  StableHlo.forall_writes_sub_of_map rfl

/-! The buffers stretch by stretch: `U k` is what core `c`'s buffers hold after the first `k` stretches. -/

abbrev U0 (c : Dev nD) : Valuation τ sig (Elt F) := fun b => m (c, b)
irreducible_def U1 (c : Dev nD) : Valuation τ sig (Elt F) := StableHlo.after hostOps0 (U0 m c)
irreducible_def U2 (c : Dev nD) : Valuation τ sig (Elt F) := StableHlo.after hostOps0_1 (U1 m c)
irreducible_def U3 (c : Dev nD) : Valuation τ sig (Elt F) := StableHlo.after hostOps0_2 (U2 m c)
irreducible_def U4 (c : Dev nD) : Valuation τ sig (Elt F) := StableHlo.after hostOps0_3 (U3 m c)
irreducible_def U5 (c : Dev nD) : Valuation τ sig (Elt F) := StableHlo.after hostOps0_4 (U4 m c)
irreducible_def U6 (c : Dev nD) : Valuation τ sig (Elt F) := StableHlo.after hostOps0_5 (U5 m c)
irreducible_def U7 (c : Dev nD) : Valuation τ sig (Elt F) := StableHlo.after hostOps0_6 (U6 m c)
irreducible_def U8 (c : Dev nD) : Valuation τ sig (Elt F) := StableHlo.after hostOps0_7 (U7 m c)
irreducible_def U9 (c : Dev nD) : Valuation τ sig (Elt F) := StableHlo.after hostOps0_8 (U8 m c)
irreducible_def U10 (c : Dev nD) : Valuation τ sig (Elt F) := StableHlo.after hostOps0_9 (U9 m c)
irreducible_def U11 (c : Dev nD) : Valuation τ sig (Elt F) := StableHlo.after hostOps0_10 (U10 m c)
irreducible_def U12 (c : Dev nD) : Valuation τ sig (Elt F) := StableHlo.after hostOps0_11 (U11 m c)
irreducible_def U13 (c : Dev nD) : Valuation τ sig (Elt F) := StableHlo.after hostOps0_12 (U12 m c)

/-- Core `c`'s buffers when the grid starts. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same read at a TensorCore reference. -/
abbrev V (c : Dev nD) (b : Ref sig .tc) : Buf (Elt F) ((c : Thread nD τ).loc b) := V0 m c (Proc.devRef .tc b)

/-- The thirteen stretches one after the other. -/
theorem V0_eq (c : Dev nD) : V0 m c = U13 m c := by
  simp only [V0, List.flatten_cons, List.flatten_nil, List.append_nil, StableHlo.after_append, U1_def, U2_def, U3_def, U4_def, U5_def, U6_def, U7_def, U8_def, U9_def, U10_def, U11_def, U12_def, U13_def]

/-! A stretch leaves what it does not write. -/

theorem U1_keep (c : Dev nD) (r : Ref sig .tc) (h : r ∉ hostOps0_W) : U1 m c (Proc.devRef .tc r) = U0 m c (Proc.devRef .tc r) := by
  rw [U1_def]; exact StableHlo.after_of_writes_sub (r := r) hostOps0 _ hostOps0_writes h
theorem U2_keep (c : Dev nD) (r : Ref sig .tc) (h : r ∉ hostOps0_1_W) : U2 m c (Proc.devRef .tc r) = U1 m c (Proc.devRef .tc r) := by
  rw [U2_def]; exact StableHlo.after_of_writes_sub (r := r) hostOps0_1 _ hostOps0_1_writes h
theorem U3_keep (c : Dev nD) (r : Ref sig .tc) (h : r ∉ hostOps0_2_W) : U3 m c (Proc.devRef .tc r) = U2 m c (Proc.devRef .tc r) := by
  rw [U3_def]; exact StableHlo.after_of_writes_sub (r := r) hostOps0_2 _ hostOps0_2_writes h
theorem U4_keep (c : Dev nD) (r : Ref sig .tc) (h : r ∉ hostOps0_3_W) : U4 m c (Proc.devRef .tc r) = U3 m c (Proc.devRef .tc r) := by
  rw [U4_def]; exact StableHlo.after_of_writes_sub (r := r) hostOps0_3 _ hostOps0_3_writes h
theorem U5_keep (c : Dev nD) (r : Ref sig .tc) (h : r ∉ hostOps0_4_W) : U5 m c (Proc.devRef .tc r) = U4 m c (Proc.devRef .tc r) := by
  rw [U5_def]; exact StableHlo.after_of_writes_sub (r := r) hostOps0_4 _ hostOps0_4_writes h
theorem U6_keep (c : Dev nD) (r : Ref sig .tc) (h : r ∉ hostOps0_5_W) : U6 m c (Proc.devRef .tc r) = U5 m c (Proc.devRef .tc r) := by
  rw [U6_def]; exact StableHlo.after_of_writes_sub (r := r) hostOps0_5 _ hostOps0_5_writes h
theorem U7_keep (c : Dev nD) (r : Ref sig .tc) (h : r ∉ hostOps0_6_W) : U7 m c (Proc.devRef .tc r) = U6 m c (Proc.devRef .tc r) := by
  rw [U7_def]; exact StableHlo.after_of_writes_sub (r := r) hostOps0_6 _ hostOps0_6_writes h
theorem U8_keep (c : Dev nD) (r : Ref sig .tc) (h : r ∉ hostOps0_7_W) : U8 m c (Proc.devRef .tc r) = U7 m c (Proc.devRef .tc r) := by
  rw [U8_def]; exact StableHlo.after_of_writes_sub (r := r) hostOps0_7 _ hostOps0_7_writes h
theorem U9_keep (c : Dev nD) (r : Ref sig .tc) (h : r ∉ hostOps0_8_W) : U9 m c (Proc.devRef .tc r) = U8 m c (Proc.devRef .tc r) := by
  rw [U9_def]; exact StableHlo.after_of_writes_sub (r := r) hostOps0_8 _ hostOps0_8_writes h
theorem U10_keep (c : Dev nD) (r : Ref sig .tc) (h : r ∉ hostOps0_9_W) : U10 m c (Proc.devRef .tc r) = U9 m c (Proc.devRef .tc r) := by
  rw [U10_def]; exact StableHlo.after_of_writes_sub (r := r) hostOps0_9 _ hostOps0_9_writes h
theorem U11_keep (c : Dev nD) (r : Ref sig .tc) (h : r ∉ hostOps0_10_W) : U11 m c (Proc.devRef .tc r) = U10 m c (Proc.devRef .tc r) := by
  rw [U11_def]; exact StableHlo.after_of_writes_sub (r := r) hostOps0_10 _ hostOps0_10_writes h
theorem U12_keep (c : Dev nD) (r : Ref sig .tc) (h : r ∉ hostOps0_11_W) : U12 m c (Proc.devRef .tc r) = U11 m c (Proc.devRef .tc r) := by
  rw [U12_def]; exact StableHlo.after_of_writes_sub (r := r) hostOps0_11 _ hostOps0_11_writes h
theorem U13_keep (c : Dev nD) (r : Ref sig .tc) (h : r ∉ hostOps0_12_W) : U13 m c (Proc.devRef .tc r) = U12 m c (Proc.devRef .tc r) := by
  rw [U13_def]; exact StableHlo.after_of_writes_sub (r := r) hostOps0_12 _ hostOps0_12_writes h

/-- No stretch writes `r`: the grid finds it as launched. -/
theorem V_keep (c : Dev nD) (r : Ref sig .tc) (h : r ∉ hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W) :
    V m c r = m ((c : Thread nD τ).loc r) := by
  simp only [List.mem_append, not_or] at h
  show V0 m c (Proc.devRef .tc r) = _
  rw [V0_eq, U13_keep m c r (by tauto), U12_keep m c r (by tauto), U11_keep m c r (by tauto), U10_keep m c r (by tauto), U9_keep m c r (by tauto), U8_keep m c r (by tauto), U7_keep m c r (by tauto), U6_keep m c r (by tauto), U5_keep m c r (by tauto), U4_keep m c r (by tauto), U3_keep m c r (by tauto), U2_keep m c r (by tauto), U1_keep m c r (by tauto)]

theorem V_main_arg0 (c : Dev nD) : V m c main_arg0 = m ((c : Thread nD τ).loc main_arg0) := V_keep m c main_arg0 (by decide +kernel)
theorem V_main_arg1 (c : Dev nD) : V m c main_arg1 = m ((c : Thread nD τ).loc main_arg1) := V_keep m c main_arg1 (by decide +kernel)
theorem V_main_arg2 (c : Dev nD) : V m c main_arg2 = m ((c : Thread nD τ).loc main_arg2) := V_keep m c main_arg2 (by decide +kernel)
theorem V_main_arg3 (c : Dev nD) : V m c main_arg3 = m ((c : Thread nD τ).loc main_arg3) := V_keep m c main_arg3 (by decide +kernel)
theorem V_main_arg4 (c : Dev nD) : V m c main_arg4 = m ((c : Thread nD τ).loc main_arg4) := V_keep m c main_arg4 (by decide +kernel)

set_option maxHeartbeats 1600000 in
/-- @main is its host operations, then the grid. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-! ## The prefetched tables -/

/-- The tables' contents when the grid starts (there is one device). -/
def tbl : pre0.Contents (Elt F) := fun j => V m (0 : Dev nD) (pre0.ref j)

theorem V_pre (c : Dev nD) (j : Fin 6) : V m c (pre0.ref j) = tbl m j := by
  obtain rfl : c = 0 := Subsingleton.elim _ _; rfl

/-- Every window's block lies inside its array at every grid point, by whole words. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Each table as the body is handed it: its whole buffer. -/
abbrev tbM0_0 : Memref sig .tc .smem S199 .i32 := Memref.whole main_v24
abbrev htbM0_0 : tbM0_0.IsWhole := Memref.isWhole_whole _
abbrev tbM0_1 : Memref sig .tc .smem S199 .i32 := Memref.whole main_v41
abbrev htbM0_1 : tbM0_1.IsWhole := Memref.isWhole_whole _
abbrev tbM0_2 : Memref sig .tc .smem S199 .i32 := Memref.whole main_v47
abbrev htbM0_2 : tbM0_2.IsWhole := Memref.isWhole_whole _
abbrev tbM0_3 : Memref sig .tc .smem S199 .i32 := Memref.whole main_v48
abbrev htbM0_3 : tbM0_3.IsWhole := Memref.isWhole_whole _
abbrev tbM0_4 : Memref sig .tc .smem S8 .i32 := Memref.whole main_v1
abbrev htbM0_4 : tbM0_4.IsWhole := Memref.isWhole_whole _
abbrev tbM0_5 : Memref sig .tc .smem S8 .i32 := Memref.whole main_v0
abbrev htbM0_5 : tbM0_5.IsWhole := Memref.isWhole_whole _

/-- A table's buffer on core `c`, and that buffer held at half the full share (the grid keeps the other half). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4) ∗ tbPt0 c tbM0_5 (tbl m 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-! ## The windows' blocks -/

/-- Window `w`'s block at point `t`, read off its array as the grid finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, spelled as the pipeline passes it (`bodyAt0`), and its wholeness. -/
abbrev ms0_0 (hO : Ok m) (t : Fin (cfgM m hO).N) : Memref sig .tc .vmem S512x4096 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x3072 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x3072 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x3072 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The body's one check, at every point: the expert read from the table is one of the eight. -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S199) (k0_off1 (grid0.coords t)) S1.size (k0_off1_inb (grid0.coords t))).toLoadRect (tbl m 0) (Shape.Idx.first (numel1_S1.symm ▸ Nat.one_pos)))

end Cert.KernelIdeal.Val
end
-- ==== Proof.HostReads.lean ====
/-
The host operations that build the schedule, read stretch by stretch: what each buffer holds after a stretch, as an
expression in what the stretch found.
-/
module
public import proofs.«01_k».proof.Proof.Kit
public import Idealize.ShloMosaic.Lib.StableHlo.RunRead
public import Idealize.ShloMosaic.Lib.Routing.Ops
public import Idealize.ShloMosaic.Lib.Routing.OpsSearch
public import Idealize.ShloMosaic.Lib.Routing.OpsPair
public import Idealize.ShloMosaic.Lib.Routing.Words

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Routing Idealize.ShloMosaic.ValueIdx

variable (m : (ℓ : Loc nD τ sig) → Buf (Elt F) ℓ) (c : Dev nD)

/-- jnp's cumsum of eight words, as the program prints it. -/
def cumsum8 (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- jnp's wrap of negative indices into an axis of eight. -/
def wrap8 (x : IVec S199 32) : IVec S199 32 :=
  select (cmpi .slt x (broadcastInDim S199 ![] bcast_S_S199 (constantI S_ 32 0#32)))
    (addi x (broadcastInDim S199 ![] bcast_S_S199 (constantI S_ 32 8#32))) x

/-- A row of eight, taken at each of 199 indices. -/
def take8 (x : IVec S8 32) (i : IVec S199 32) : IVec S199 32 :=
  Host.gather gather_S8_S199x1_S199_n_0_n_n_0_1_1 x (broadcastInDim S199x1 ![0] bcast_S199_S199x1_0 (wrap8 i))

/-- The last of eight words. -/
def last8 (x : IVec S8 32) : IVec S_ 32 := shapeCast S_ (extractStridedSlice S1 ![7] x slices_S8_S1_7) shapeCasts_S1_S_

/-- One bit, then 198 bits. -/
def cat2 (a : IVec S1 1) (b : IVec S198 1) : IVec S199 1 := concatenate S199 0 [⟨S1, a⟩, ⟨S198, b⟩] concatenates_S1_S198_S199_d0

/-- Whether a step is the first of its block: the step before it has another. -/
def firstOf (x : IVec S199 32) : IVec S199 1 :=
  cat2 (broadcastInDim S1 ![] bcast_S_S1 (constantI S_ 1 1#1))
    (cmpi .ne (extractStridedSlice S198 ![1] x slices_S199_S198_1) (extractStridedSlice S198 ![0] x slices_S199_S198_0))

theorem U1_v0 : (U1 m c (Proc.devRef .tc main_v0) : IVec S8 32) = cumsum8 (U0 m c (Proc.devRef .tc main_arg2)) := by
  rw [U1_def]; after_reads_simp; simp only [StableHlo.TRef.ofBuf_toBuf]; unfold cumsum8; simp -implicitDefEqProofs only [StableHlo.TRef.toBuf, StableHlo.TRef.ofBuf, cast_cast, cast_eq]
theorem U2_v1 : (U2 m c (Proc.devRef .tc main_v1) : IVec S8 32) = subi (s := S8) (w := 32) (U1 m c (Proc.devRef .tc main_v0)) (U1 m c (Proc.devRef .tc main_arg2)) := by
  rw [U2_def]; after_reads_simp
theorem U2_c : (U2 m c (Proc.devRef .tc main_c) : IVec S_ 32) = constantI S_ 32 512#32 := by
  rw [U2_def]; after_reads_simp
theorem U3_v2 : (U3 m c (Proc.devRef .tc main_v2) : IVec S8 32) = pyDiv (s := S8) bcast_S_S8 (U2 m c (Proc.devRef .tc main_v1)) (U2 m c (Proc.devRef .tc main_c)) := by
  rw [U3_def]; after_reads_simp; simp only [StableHlo.TRef.ofBuf_toBuf]; rfl
theorem U4_v4 : (U4 m c (Proc.devRef .tc main_v4) : IVec S8 1) = cmpi (s := S8) (w := 32) .sgt (U3 m c (Proc.devRef .tc main_arg2)) (broadcastInDim S8 ![] bcast_S_S8 (constantI S_ 32 0#32)) := by
  rw [U4_def]; after_reads_simp
theorem U4_v6 : (U4 m c (Proc.devRef .tc main_v6) : IVec S8 32) = subi (s := S8) (w := 32) (U3 m c (Proc.devRef .tc main_v0)) (broadcastInDim S8 ![] bcast_S_S8 (constantI S_ 32 1#32)) := by
  rw [U4_def]; after_reads_simp
theorem U4_c_2 : (U4 m c (Proc.devRef .tc main_c_2) : IVec S_ 32) = constantI S_ 32 512#32 := by
  rw [U4_def]; after_reads_simp
theorem U5_v7 : (U5 m c (Proc.devRef .tc main_v7) : IVec S8 32) = pyDiv (s := S8) bcast_S_S8 (U4 m c (Proc.devRef .tc main_v6)) (U4 m c (Proc.devRef .tc main_c_2)) := by
  rw [U5_def]; after_reads_simp; simp only [StableHlo.TRef.ofBuf_toBuf]; rfl
theorem U6_v10 : (U6 m c (Proc.devRef .tc main_v10) : IVec S8 32) = addi (s := S8) (w := 32) (subi (s := S8) (w := 32) (U5 m c (Proc.devRef .tc main_v7)) (U5 m c (Proc.devRef .tc main_v2))) (broadcastInDim S8 ![] bcast_S_S8 (constantI S_ 32 1#32)) := by
  rw [U6_def]; after_reads_simp
theorem U6_c_4 : (U6 m c (Proc.devRef .tc main_c_4) : IVec S_ 32) = constantI S_ 32 0#32 := by
  rw [U6_def]; after_reads_simp
theorem U7_v11 : (U7 m c (Proc.devRef .tc main_v11) : IVec S8 32) = select (s := S8) (U6 m c (Proc.devRef .tc main_v4)) (U6 m c (Proc.devRef .tc main_v10)) (broadcastInDim S8 ![] bcast_S_S8 (U6 m c (Proc.devRef .tc main_c_4))) := by
  rw [U7_def]; after_reads_simp; simp only [StableHlo.TRef.ofBuf_toBuf]; rfl
theorem U8_v12 : (U8 m c (Proc.devRef .tc main_v12) : IVec S8 32) = cumsum8 (U7 m c (Proc.devRef .tc main_v11)) := by
  rw [U8_def]; after_reads_simp; simp only [StableHlo.TRef.ofBuf_toBuf]; unfold cumsum8; simp -implicitDefEqProofs only [StableHlo.TRef.toBuf, StableHlo.TRef.ofBuf, cast_cast, cast_eq]
theorem U9_v17 : (U9 m c (Proc.devRef .tc main_v17) : IVec S199 1) = cmpi (s := S199) (w := 32) .slt (iotaInDim S199 32 0) (broadcastInDim S199 ![] bcast_S_S199 (last8 (U8 m c (Proc.devRef .tc main_v12)))) := by
  rw [U9_def]; after_reads_simp; rfl
theorem U9_v22 : (U9 m c (Proc.devRef .tc main_v22) : IVec S199 32) = minsi (s := S199) (w := 32) (iotaInDim S199 32 0) (broadcastInDim S199 ![] bcast_S_S199 (subi (last8 (U8 m c (Proc.devRef .tc main_v12))) (constantI S_ 32 1#32))) := by
  rw [U9_def]; after_reads_simp; rfl
theorem U10_v23 : (U10 m c (Proc.devRef .tc main_v23) : IVec S199 32) = Host.reduce IntOp.addi (extui 32 (cmpi .sle (broadcastInDim S8x199 ![0, 1] bcast_S8x1_S8x199_0_1 (broadcastInDim S8x1 ![0] bcast_S8_S8x1_0 ((U9 m c (Proc.devRef .tc main_v12)) : IVec S8 32))) (broadcastInDim S8x199 ![0, 1] bcast_S1x199_S8x199_0_1 (broadcastInDim S1x199 ![1] bcast_S199_S1x199_1 ((U9 m c (Proc.devRef .tc main_v22)) : IVec S199 32)))) natLt_1_32) (constantI S_ 32 0#32) reducesTo_S8x199_S199_d0 h_S_ := by
  rw [U10_def]; after_reads_simp; simp only [StableHlo.TRef.ofBuf_toBuf]; rfl
theorem U11_c_6 : (U11 m c (Proc.devRef .tc main_c_6) : IVec S_ 32) = constantI S_ 32 0#32 := by
  rw [U11_def]; after_reads_simp
theorem U11_c_7 : (U11 m c (Proc.devRef .tc main_c_7) : IVec S_ 32) = constantI S_ 32 7#32 := by
  rw [U11_def]; after_reads_simp
theorem U12_v24 : (U12 m c (Proc.devRef .tc main_v24) : IVec S199 32) = minsi (s := S199) (w := 32) (broadcastInDim S199 ![] bcast_S_S199 ((U11 m c (Proc.devRef .tc main_c_7)) : IVec S_ 32)) (maxsi (broadcastInDim S199 ![] bcast_S_S199 ((U11 m c (Proc.devRef .tc main_c_6)) : IVec S_ 32)) (U11 m c (Proc.devRef .tc main_v23))) := by
  rw [U12_def]; after_reads_simp; simp only [StableHlo.TRef.ofBuf_toBuf]; rfl
theorem U13_v41 : (U13 m c (Proc.devRef .tc main_v41) : IVec S199 32) = subi (addi (take8 (U12 m c (Proc.devRef .tc main_v2)) (U12 m c (Proc.devRef .tc main_v24))) (U12 m c (Proc.devRef .tc main_v22))) (take8 (subi (s := S8) (w := 32) (U12 m c (Proc.devRef .tc main_v12)) (U12 m c (Proc.devRef .tc main_v11))) (U12 m c (Proc.devRef .tc main_v24))) := by
  rw [U13_def]; after_reads_simp; rfl
theorem U13_v47 : (U13 m c (Proc.devRef .tc main_v47) : IVec S199 32) = extui (s := S199) (w := 1) 32 (U12 m c (Proc.devRef .tc main_v17)) natLt_1_32 := by
  rw [U13_def]; after_reads_simp
theorem U13_v48 : (U13 m c (Proc.devRef .tc main_v48) : IVec S199 32) = extui 32 (firstOf (subi (addi (take8 (U12 m c (Proc.devRef .tc main_v2)) (U12 m c (Proc.devRef .tc main_v24))) (U12 m c (Proc.devRef .tc main_v22))) (take8 (subi (s := S8) (w := 32) (U12 m c (Proc.devRef .tc main_v12)) (U12 m c (Proc.devRef .tc main_v11))) (U12 m c (Proc.devRef .tc main_v24))))) natLt_1_32 := by
  rw [U13_def]; after_reads_simp; refine congrArg (fun z => extui 32 z natLt_1_32) (congrArg₂ cat2 ?_ ?_) <;> after_reads_simp <;> rfl
theorem U13_v49 : (U13 m c (Proc.devRef .tc main_v49) : FVec F S8x1x3072 .f32) = shapeCast (s := S8x3072) S8x1x3072 (U12 m c (Proc.devRef .tc main_arg4)) shapeCasts_S8x3072_S8x1x3072 := by
  rw [U13_def]; after_reads_simp; rfl

end Cert.KernelIdeal.Val
-- ==== Proof.Host.lean ====
/-
The schedule the host operations build, as numbers: where the group sizes split the rows, every table holds the word of
the entry that `Sched` gives.
-/
module
public import proofs.«01_k».proof.Proof.HostReads
public import proofs.«01_k».proof.Proof.Sched
public import Idealize.ShloMosaic.Lib.Pipeline.Value

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Routing Idealize.ShloMosaic.ValueIdx Idealize.ShloMosaic.WordCmp
open Cert.Sched (S E nb T tot st ex bk)

/-! ## The operations on words that hold numbers -/

theorem sum_map_range (f : ℕ → ℕ) (n : ℕ) : ((List.range n).map f).sum = ∑ k ∈ Finset.range n, f k := by
  induction n with
  | zero => rfl
  | succ n ih => rw [List.range_succ, List.map_append, List.sum_append, ih, Finset.sum_range_succ]; simp

theorem cumsum8_at (x : IVec S8 32) (f : ℕ → ℕ) (hx : ∀ e : Fin 8, x (ix1 e) = BitVec.ofNat 32 (f e.val)) (e : Fin 8) :
    cumsum8 x (ix1 e) = BitVec.ofNat 32 (∑ k ∈ Finset.range (e.val + 1), f k) := by
  unfold cumsum8
  rw [← sum_map_range]
  exact cumsum1 (N := 8) (Nm1 := 7) rfl x f hx _ rfl _ _ e

theorem last8_at (x : IVec S8 32) : last8 x ValueIdx.ix0 = x (ix1 (7 : Fin 8)) := by
  unfold last8
  refine congrArg x (funext fun a => Fin.ext ?_)
  match a with
  | ⟨0, _⟩ => rfl

theorem wrap8_at (x : IVec S199 32) (s : Fin 199) {k : ℕ} (hk : k < 8) (hx : x (ix1 s) = BitVec.ofNat 32 k) :
    wrap8 x (ix1 s) = BitVec.ofNat 32 k := by
  rw [← hx]
  refine wrap_of_lt _ _ ?_
  rw [hx, toNat_ofNat_of_lt (w := 32) (by omega)]; omega

theorem take8_at (x : IVec S8 32) (i : IVec S199 32) (s : Fin 199) {k : ℕ} (hk : k < 8) (hi : i (ix1 s) = BitVec.ofNat 32 k) :
    take8 x i (ix1 s) = x (ix1 ⟨k, hk⟩) := by
  unfold take8
  refine take_ap _ rfl rfl rfl rfl x _ s hk (by omega) ?_
  rw [show broadcastInDim S199x1 ![0] bcast_S199_S199x1_0 (wrap8 i) (ix2 s (0 : Fin 1)) = wrap8 i (ix1 s) from bcCol _ _ s]
  exact wrap8_at i s hk hi

theorem firstOf_zero (x : IVec S199 32) : firstOf x (ix1 (0 : Fin 199)) = 1#1 := by
  unfold firstOf cat2
  exact concatenate_pair_apply_left (t := S199) (s₁ := S1) (s₂ := S198) 0 _ _ _ (ix1 (0 : Fin 199)) rfl (ix1 (0 : Fin 1))
    (fun b => match b with | ⟨0, _⟩ => rfl)

theorem firstOf_succ (x : IVec S199 32) (s : ℕ) (h : s + 1 < 199) :
    firstOf x (ix1 ⟨s + 1, h⟩) = IntOp.cmpi .ne (x (ix1 ⟨s + 1, h⟩)) (x (ix1 ⟨s, by omega⟩)) := by
  unfold firstOf cat2
  refine (concatenate_pair_apply_right (t := S199) (s₁ := S1) (s₂ := S198) 0 _ _ _ (ix1 ⟨s + 1, h⟩) rfl rfl (ix1 (⟨s, by omega⟩ : Fin 198))
    (fun b hb => absurd (Subsingleton.elim _ _) hb) rfl).trans ?_
  show IntOp.cmpi .ne (extractStridedSlice S198 ![1] x slices_S199_S198_1 (ix1 (⟨s, by omega⟩ : Fin 198)))
    (extractStridedSlice S198 ![0] x slices_S199_S198_0 (ix1 (⟨s, by omega⟩ : Fin 198))) = _
  rw [slice1 1 x slices_S199_S198_1 (⟨s, by omega⟩ : Fin 198) (by show 1 + s < 199; omega),
    slice1 0 x slices_S199_S198_0 (⟨s, by omega⟩ : Fin 198) (by show 0 + s < 199; omega)]
  simp only [Nat.zero_add, Nat.add_comm 1 s]

/-- How many of eight words are at most a step's word. -/
theorem count8_at (x : IVec S8 32) (y : IVec S199 32) (s : Fin 199) (f : ℕ → ℕ) (b : ℕ) (hf : ∀ e, e < 8 → f e < 2 ^ 31) (hb : b < 2 ^ 31)
    (hx : ∀ e : Fin 8, x (ix1 e) = BitVec.ofNat 32 (f e.val)) (hy : y (ix1 s) = BitVec.ofNat 32 b) :
    Host.reduce IntOp.addi (extui 32 (cmpi .sle (broadcastInDim S8x199 ![0, 1] bcast_S8x1_S8x199_0_1 (broadcastInDim S8x1 ![0] bcast_S8_S8x1_0 x))
      (broadcastInDim S8x199 ![0, 1] bcast_S1x199_S8x199_0_1 (broadcastInDim S1x199 ![1] bcast_S199_S1x199_1 y))) natLt_1_32)
      (constantI S_ 32 0#32) reducesTo_S8x199_S199_d0 h_S_ (ix1 s)
    = BitVec.ofNat 32 (∑ e ∈ Finset.range 8, if f e ≤ b then 1 else 0) := by
  apply BitVec.eq_of_toNat_eq
  have hle : (∑ e ∈ Finset.range 8, if f e ≤ b then 1 else 0) ≤ 8 :=
    (Finset.sum_le_sum fun e _ => show (if f e ≤ b then 1 else 0) ≤ 1 by split <;> omega).trans (by simp)
  rw [StableHlo.Predicate.toNat_reduce_count_rows (n := 8) (m := 199) (by omega), toNat_ofNat_of_lt (w := 32) (by omega), Finset.card_filter,
    ← Fin.sum_univ_eq_sum_range (fun e => if f e ≤ b then 1 else 0) 8]
  refine Finset.sum_congr rfl fun e _ => ?_
  have hm : cmpi .sle (broadcastInDim S8x199 ![0, 1] bcast_S8x1_S8x199_0_1 (broadcastInDim S8x1 ![0] bcast_S8_S8x1_0 x))
      (broadcastInDim S8x199 ![0, 1] bcast_S1x199_S8x199_0_1 (broadcastInDim S1x199 ![1] bcast_S199_S1x199_1 y)) (ix2 e s)
      = BitVec.ofBool (decide (f e.val ≤ b)) := by
    show IntOp.cmpi .sle (broadcastInDim S8x199 ![0, 1] bcast_S8x1_S8x199_0_1 (broadcastInDim S8x1 ![0] bcast_S8_S8x1_0 x) (ix2 e s))
      (broadcastInDim S8x199 ![0, 1] bcast_S1x199_S8x199_0_1 (broadcastInDim S1x199 ![1] bcast_S199_S1x199_1 y) (ix2 e s)) = _
    rw [bcRows, bcCols, hx e, hy, cmpi_sle_ofNat (w := 32) (hf _ e.isLt) hb]
  refine if_congr ?_ rfl rfl
  refine Iff.trans (Eq.to_iff (congrArg (· = 1#1) (Eq.trans (congrArg _ (ij_eq_ix2 e s)) hm))) ?_
  exact ofBool_decide_eq_one_iff _

/-- A word below eight is left as it is by a clip to 0 … 7. -/
theorem clip_at (lo hi : IVec S_ 32) (x : IVec S199 32) (s : Fin 199) {k : ℕ} (hk : k < 8) (hlo : lo ValueIdx.ix0 = BitVec.ofNat 32 0)
    (hhi : hi ValueIdx.ix0 = BitVec.ofNat 32 7) (hx : x (ix1 s) = BitVec.ofNat 32 k) :
    minsi (broadcastInDim S199 ![] bcast_S_S199 hi) (maxsi (broadcastInDim S199 ![] bcast_S_S199 lo) x) (ix1 s) = BitVec.ofNat 32 k := by
  show IntOp.minsi (broadcastInDim S199 ![] bcast_S_S199 hi (ix1 s)) (IntOp.maxsi (broadcastInDim S199 ![] bcast_S_S199 lo (ix1 s)) (x (ix1 s))) = _
  rw [bc0, bc0, hlo, hhi, hx, clip_word (by omega) (by omega) (by omega)]
  exact congrArg (BitVec.ofNat 32) (by omega)

/-- A step's block: the first block of its expert, and the step counted from the expert's first. -/
theorem step_at (v2 : IVec S8 32) (v24 v22 : IVec S199 32) (v12 v11 : IVec S8 32) (s : Fin 199) {k a b t n : ℕ} (hk : k < 8) (hn : n ≤ t) (ht : t - n ≤ a + b)
    (h24 : v24 (ix1 s) = BitVec.ofNat 32 k) (h2 : v2 (ix1 ⟨k, hk⟩) = BitVec.ofNat 32 a) (h22 : v22 (ix1 s) = BitVec.ofNat 32 b)
    (h12 : v12 (ix1 ⟨k, hk⟩) = BitVec.ofNat 32 t) (h11 : v11 (ix1 ⟨k, hk⟩) = BitVec.ofNat 32 n) :
    subi (addi (take8 v2 v24) v22) (take8 (subi v12 v11) v24) (ix1 s) = BitVec.ofNat 32 (a + b - (t - n)) := by
  rw [subi_ap, addi_ap, take8_at _ _ s hk h24, take8_at _ _ s hk h24, subi_ap, h2, h22, h12, h11, BitVec.ofNat_add_ofNat, ofNat32_sub hn, ofNat32_sub ht]

/-! ## The tables -/

variable (m : (ℓ : Loc nD τ sig) → Buf (Elt F) ℓ) (c : Dev nD)

/-- The group sizes as numbers. -/
def gN (e : ℕ) : ℕ := if h : e < 8 then ((m ((c : Thread nD τ).loc main_arg2) : IVec S8 32) (ix1 ⟨e, h⟩)).toNat else 0

theorem arg2_at (e : Fin 8) : (U0 m c (Proc.devRef .tc main_arg2) : IVec S8 32) (ix1 e) = BitVec.ofNat 32 (gN m c e.val) := by
  show (m ((c : Thread nD τ).loc main_arg2) : IVec S8 32) (ix1 e) = _
  unfold gN
  rw [dif_pos e.isLt, BitVec.ofNat_toNat, BitVec.setWidth_eq]

theorem v0_at (e : Fin 8) : (U1 m c (Proc.devRef .tc main_v0) : IVec S8 32) (ix1 e) = BitVec.ofNat 32 (E (gN m c) e.val) := by
  rw [U1_v0]; exact cumsum8_at _ _ (arg2_at m c) e

variable (hsum : S (gN m c) 8 = 98304)
include hsum

theorem S_le (e : ℕ) (h : e ≤ 8) : S (gN m c) e ≤ 98304 := hsum ▸ Cert.Sched.S_mono h
theorem g_le (e : ℕ) (h : e < 8) : gN m c e ≤ 98304 := by
  have h1 := S_le m c hsum (e + 1) h; rw [Cert.Sched.S_succ] at h1; omega

theorem v1_at (e : Fin 8) : (U2 m c (Proc.devRef .tc main_v1) : IVec S8 32) (ix1 e) = BitVec.ofNat 32 (S (gN m c) e.val) := by
  rw [U2_v1, subi_ap, v0_at, U1_keep m c main_arg2 (by decide), arg2_at, ofNat32_sub (by rw [Cert.Sched.E_eq]; omega), Cert.Sched.E_eq]
  congr 1; omega

theorem v2_at (e : Fin 8) : (U3 m c (Proc.devRef .tc main_v2) : IVec S8 32) (ix1 e) = BitVec.ofNat 32 (S (gN m c) e.val / 512) := by
  rw [U3_v2]
  have := S_le m c hsum e.val (by omega)
  refine pyDiv_ap _ _ _ _ (v1_at m c hsum e) ?_ (by omega) (by omega) (by omega)
  rw [U2_c]; rfl

theorem v4_at (e : Fin 8) : (U4 m c (Proc.devRef .tc main_v4) : IVec S8 1) (ix1 e) = BitVec.ofBool (decide (0 < gN m c e.val)) := by
  rw [U4_v4]
  show IntOp.cmpi .sgt ((U3 m c (Proc.devRef .tc main_arg2) : IVec S8 32) (ix1 e)) (BitVec.ofNat 32 0) = _
  have := g_le m c hsum e.val e.isLt
  rw [U3_keep m c main_arg2 (by decide), U2_keep m c main_arg2 (by decide), U1_keep m c main_arg2 (by decide), arg2_at,
    cmpi_sgt_ofNat (w := 32) (by omega) (by omega)]

theorem v6_at (e : Fin 8) (h : 0 < gN m c e.val) : (U4 m c (Proc.devRef .tc main_v6) : IVec S8 32) (ix1 e) = BitVec.ofNat 32 (E (gN m c) e.val - 1) := by
  rw [U4_v6, subi_ap, bc0, show constantI S_ 32 1#32 ValueIdx.ix0 = BitVec.ofNat 32 1 from rfl, U3_keep m c main_v0 (by decide), U2_keep m c main_v0 (by decide), v0_at, ofNat32_sub (by rw [Cert.Sched.E_eq]; omega)]

theorem v7_at (e : Fin 8) (h : 0 < gN m c e.val) : (U5 m c (Proc.devRef .tc main_v7) : IVec S8 32) (ix1 e) = BitVec.ofNat 32 ((E (gN m c) e.val - 1) / 512) := by
  rw [U5_v7]
  have := Cert.Sched.E_le hsum e.val e.isLt
  refine pyDiv_ap _ _ _ _ (v6_at m c hsum e h) ?_ (by omega) (by omega) (by omega)
  rw [U4_c_2]; rfl

theorem v11_at (e : Fin 8) : (U7 m c (Proc.devRef .tc main_v11) : IVec S8 32) (ix1 e) = BitVec.ofNat 32 (nb (gN m c) e.val) := by
  rw [U7_v11]
  show Scalar.select ((U6 m c (Proc.devRef .tc main_v4) : IVec S8 1) (ix1 e)) ((U6 m c (Proc.devRef .tc main_v10) : IVec S8 32) (ix1 e))
    (broadcastInDim S8 ![] bcast_S_S8 (U6 m c (Proc.devRef .tc main_c_4) : IVec S_ 32) (ix1 e)) = _
  rw [bc0, U6_c_4, U6_keep m c main_v4 (by decide), U5_keep m c main_v4 (by decide), v4_at m c hsum, select_decide]
  by_cases h : 0 < gN m c e.val
  · rw [if_pos h, U6_v10]
    rw [addi_ap, subi_ap, bc0, show constantI S_ 32 1#32 ValueIdx.ix0 = BitVec.ofNat 32 1 from rfl, v7_at m c hsum e h, U5_keep m c main_v2 (by decide), U4_keep m c main_v2 (by decide), v2_at m c hsum,
      ofNat32_sub (Cert.Sched.first_le_last h), BitVec.ofNat_add_ofNat, Cert.Sched.nb_pos h]
  · rw [if_neg h, Cert.Sched.nb_zero h]; rfl

theorem v12_at (e : Fin 8) : (U8 m c (Proc.devRef .tc main_v12) : IVec S8 32) (ix1 e) = BitVec.ofNat 32 (T (gN m c) (e.val + 1)) := by
  rw [U8_v12]; exact cumsum8_at _ _ (v11_at m c hsum) e

theorem last_at : last8 (U8 m c (Proc.devRef .tc main_v12)) ValueIdx.ix0 = BitVec.ofNat 32 (tot (gN m c)) := by
  rw [last8_at, v12_at m c hsum]; rfl

theorem v17_at (s : Fin 199) : (U9 m c (Proc.devRef .tc main_v17) : IVec S199 1) (ix1 s) = BitVec.ofBool (decide (s.val < tot (gN m c))) := by
  rw [U9_v17]
  show IntOp.cmpi .slt (BitVec.ofNat 32 s.val) (broadcastInDim S199 ![] bcast_S_S199 (last8 (U8 m c (Proc.devRef .tc main_v12))) (ix1 s)) = _
  have := Cert.Sched.tot_le hsum
  rw [bc0, last_at m c hsum, cmpi_slt_ofNat (w := 32) (by omega) (by omega)]

theorem v22_at (s : Fin 199) : (U9 m c (Proc.devRef .tc main_v22) : IVec S199 32) (ix1 s) = BitVec.ofNat 32 (st (gN m c) s.val) := by
  rw [U9_v22]
  show IntOp.minsi (BitVec.ofNat 32 s.val) (broadcastInDim S199 ![] bcast_S_S199 (subi (last8 (U8 m c (Proc.devRef .tc main_v12))) (constantI S_ 32 1#32)) (ix1 s)) = _
  have h1 := Cert.Sched.tot_le hsum
  have h2 := Cert.Sched.tot_pos hsum
  have h3 : subi (last8 (U8 m c (Proc.devRef .tc main_v12))) (constantI S_ 32 1#32) ValueIdx.ix0 = BitVec.ofNat 32 (tot (gN m c) - 1) := by
    rw [subi_ap, last_at m c hsum]; exact ofNat32_sub h2
  rw [bc0, h3]
  unfold IntOp.minsi
  rw [slt_ofNat32 (by omega) (by omega)]
  unfold st
  by_cases h : s.val < tot (gN m c) - 1
  · simp only [h, decide_true, if_true]; congr 1; omega
  · simp only [h, decide_false]; simp only [Bool.false_eq_true, if_false]; congr 1; omega

theorem v23_at (s : Fin 199) : (U10 m c (Proc.devRef .tc main_v23) : IVec S199 32) (ix1 s) = BitVec.ofNat 32 (ex (gN m c) s.val) := by
  rw [U10_v23]
  have h1 := Cert.Sched.tot_le hsum
  have h2 := Cert.Sched.st_lt hsum s.val
  refine count8_at _ _ s (fun e => T (gN m c) (e + 1)) (st (gN m c) s.val) (fun e he => ?_) (by omega) (fun e => ?_) (v22_at m c hsum s)
  · have : T (gN m c) (e + 1) ≤ T (gN m c) 8 := Cert.Sched.T_mono (by omega)
    unfold tot at h1; omega
  · rw [U9_keep m c main_v12 (by decide)]; exact v12_at m c hsum e

theorem v24_at (s : Fin 199) : (U12 m c (Proc.devRef .tc main_v24) : IVec S199 32) (ix1 s) = BitVec.ofNat 32 (ex (gN m c) s.val) := by
  rw [U12_v24]
  have h := Cert.Sched.ex_lt hsum s.val
  refine clip_at _ _ _ s h (by rw [U11_c_6]; rfl) (by rw [U11_c_7]; rfl) ?_
  rw [U11_keep m c main_v23 (by decide)]; exact v23_at m c hsum s

theorem blk_at (s : Fin 199) : subi (addi (take8 (U12 m c (Proc.devRef .tc main_v2)) (U12 m c (Proc.devRef .tc main_v24))) (U12 m c (Proc.devRef .tc main_v22)))
    (take8 (subi (s := S8) (w := 32) (U12 m c (Proc.devRef .tc main_v12)) (U12 m c (Proc.devRef .tc main_v11))) (U12 m c (Proc.devRef .tc main_v24))) (ix1 s)
    = BitVec.ofNat 32 (bk (gN m c) s.val) := by
  have h := Cert.Sched.ex_spec hsum s.val
  have hT := Cert.Sched.T_succ (g := gN m c) (ex (gN m c) s.val)
  refine (step_at (k := ex (gN m c) s.val) _ _ _ _ _ s h.1 (a := S (gN m c) (ex (gN m c) s.val) / 512) (b := st (gN m c) s.val) (t := T (gN m c) (ex (gN m c) s.val + 1)) (n := nb (gN m c) (ex (gN m c) s.val))
    (by omega) (by omega) (v24_at m c hsum s) ?_ ?_ ?_ ?_).trans ?_
  · rw [U12_keep m c main_v2 (by decide), U11_keep m c main_v2 (by decide), U10_keep m c main_v2 (by decide), U9_keep m c main_v2 (by decide), U8_keep m c main_v2 (by decide),
      U7_keep m c main_v2 (by decide), U6_keep m c main_v2 (by decide), U5_keep m c main_v2 (by decide), U4_keep m c main_v2 (by decide)]
    exact v2_at m c hsum ⟨_, h.1⟩
  · rw [U12_keep m c main_v22 (by decide), U11_keep m c main_v22 (by decide), U10_keep m c main_v22 (by decide)]
    exact v22_at m c hsum s
  · rw [U12_keep m c main_v12 (by decide), U11_keep m c main_v12 (by decide), U10_keep m c main_v12 (by decide), U9_keep m c main_v12 (by decide)]
    exact v12_at m c hsum ⟨_, h.1⟩
  · rw [U12_keep m c main_v11 (by decide), U11_keep m c main_v11 (by decide), U10_keep m c main_v11 (by decide), U9_keep m c main_v11 (by decide), U8_keep m c main_v11 (by decide)]
    exact v11_at m c hsum ⟨_, h.1⟩
  · unfold bk
    exact congrArg (BitVec.ofNat 32) (by omega)

/-! ## What the grid starts with -/

/-- The expert of each step. -/
theorem V_v24 (s : Fin 199) : (V m c main_v24 : IVec S199 32) (ix1 s) = BitVec.ofNat 32 (ex (gN m c) s.val) := by
  show (V0 m c (Proc.devRef .tc main_v24) : IVec S199 32) (ix1 s) = _
  rw [V0_eq, U13_keep m c main_v24 (by decide)]; exact v24_at m c hsum s

/-- The block of each step. -/
theorem V_v41 (s : Fin 199) : (V m c main_v41 : IVec S199 32) (ix1 s) = BitVec.ofNat 32 (bk (gN m c) s.val) := by
  show (V0 m c (Proc.devRef .tc main_v41) : IVec S199 32) (ix1 s) = _
  rw [V0_eq, U13_v41]; exact blk_at m c hsum s

/-- Whether each step is one of the schedule's. -/
theorem V_v47 (s : Fin 199) : (V m c main_v47 : IVec S199 32) (ix1 s) = BitVec.ofNat 32 (if s.val < tot (gN m c) then 1 else 0) := by
  show (V0 m c (Proc.devRef .tc main_v47) : IVec S199 32) (ix1 s) = _
  rw [V0_eq, U13_v47]
  show ((U12 m c (Proc.devRef .tc main_v17) : IVec S199 1) (ix1 s)).setWidth 32 = _
  rw [U12_keep m c main_v17 (by decide), U11_keep m c main_v17 (by decide), U10_keep m c main_v17 (by decide), v17_at m c hsum]
  exact setWidth_ofBool _

/-- Whether each step is the first of its block. -/
theorem V_v48_zero : (V m c main_v48 : IVec S199 32) (ix1 (0 : Fin 199)) = BitVec.ofNat 32 1 := by
  show (V0 m c (Proc.devRef .tc main_v48) : IVec S199 32) (ix1 (0 : Fin 199)) = _
  rw [V0_eq, U13_v48]
  show (firstOf _ (ix1 (0 : Fin 199))).setWidth 32 = _
  rw [firstOf_zero]; rfl

theorem V_v48_succ (s : ℕ) (h : s + 1 < 199) : (V m c main_v48 : IVec S199 32) (ix1 ⟨s + 1, h⟩)
    = BitVec.ofNat 32 (if bk (gN m c) (s + 1) ≠ bk (gN m c) s then 1 else 0) := by
  show (V0 m c (Proc.devRef .tc main_v48) : IVec S199 32) (ix1 ⟨s + 1, h⟩) = _
  rw [V0_eq, U13_v48]
  show (firstOf _ (ix1 ⟨s + 1, h⟩)).setWidth 32 = _
  have h1 := Cert.Sched.bk_lt hsum s
  have h2 := Cert.Sched.bk_lt hsum (s + 1)
  rw [firstOf_succ, blk_at m c hsum, blk_at m c hsum]
  show (IntOp.cmpi .ne (BitVec.ofNat 32 (bk (gN m c) (s + 1))) (BitVec.ofNat 32 (bk (gN m c) s))).setWidth 32 = _
  rw [cmpi_ne_ofNat (w := 32) (by omega) (by omega)]
  exact setWidth_ofBool _

/-- The first row of each expert, and the row after its last. -/
theorem V_v1 (e : Fin 8) : (V m c main_v1 : IVec S8 32) (ix1 e) = BitVec.ofNat 32 (S (gN m c) e.val) := by
  show (V0 m c (Proc.devRef .tc main_v1) : IVec S8 32) (ix1 e) = _
  rw [V0_eq, U13_keep m c main_v1 (by decide), U12_keep m c main_v1 (by decide), U11_keep m c main_v1 (by decide), U10_keep m c main_v1 (by decide),
    U9_keep m c main_v1 (by decide), U8_keep m c main_v1 (by decide), U7_keep m c main_v1 (by decide), U6_keep m c main_v1 (by decide), U5_keep m c main_v1 (by decide),
    U4_keep m c main_v1 (by decide), U3_keep m c main_v1 (by decide), v1_at m c hsum]

omit hsum in
theorem V_v0 (e : Fin 8) : (V m c main_v0 : IVec S8 32) (ix1 e) = BitVec.ofNat 32 (E (gN m c) e.val) := by
  show (V0 m c (Proc.devRef .tc main_v0) : IVec S8 32) (ix1 e) = _
  rw [V0_eq, U13_keep m c main_v0 (by decide), U12_keep m c main_v0 (by decide), U11_keep m c main_v0 (by decide), U10_keep m c main_v0 (by decide),
    U9_keep m c main_v0 (by decide), U8_keep m c main_v0 (by decide), U7_keep m c main_v0 (by decide), U6_keep m c main_v0 (by decide), U5_keep m c main_v0 (by decide),
    U4_keep m c main_v0 (by decide), U3_keep m c main_v0 (by decide), U2_keep m c main_v0 (by decide), v0_at]

omit hsum in
/-- The scales of the weights, as the grid's windows take them. -/
theorem V_v49 : (V m c main_v49 : FVec F S8x1x3072 .f32)
    = shapeCast S8x1x3072 (m ((c : Thread nD τ).loc main_arg4) : FVec F S8x3072 .f32) shapeCasts_S8x3072_S8x1x3072 := by
  show (V0 m c (Proc.devRef .tc main_v49) : FVec F S8x1x3072 .f32) = _
  rw [V0_eq, U13_v49, ← V_main_arg4 m c]
  show _ = shapeCast S8x1x3072 (V0 m c (Proc.devRef .tc main_arg4) : FVec F S8x3072 .f32) shapeCasts_S8x3072_S8x1x3072
  rw [V0_eq, U13_keep m c main_arg4 (by decide)]

end Cert.KernelIdeal.Val
-- ==== Proof.Body.lean ====
/-
What one grid point computes, as plain functions of the blocks it is handed.

The result's block is 512 rows by 3072 columns, computed in six column tiles of 512. `yTile k` is tile `k` of the scaled
product; `outWhole` is the block whose every row belongs to the point's expert; `mTile k` is tile `k` merged with what the
buffer held, and `outPart` is the block so merged.
-/
module
public import proofs.«01_k».proof.Proof.Kit
public import Idealize.ShloMosaic.Lib.WritesUnit
public import Idealize.ShloMosaic.Lib.WholeRead
public import Idealize.ShloMosaic.Lib.ValueIdx

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ (UR sig nD τ) ℕ

/-! ## Column tiles -/

theorem inb_w (k : Fin 6) : ∀ a, (![0, 0, 512 * k.val] : Fin 3 → ℕ) a + S1x4096x512.size a ≤ S1x4096x3072.size a := by
  intro a; have := k.isLt; fin_cases a <;> simp [Shape.size] <;> omega
theorem inb_s (k : Fin 6) : ∀ a, (![0, 0, 512 * k.val] : Fin 3 → ℕ) a + S1x1x512.size a ≤ S1x1x3072.size a := by
  intro a; have := k.isLt; fin_cases a <;> simp [Shape.size] <;> omega
theorem inb_o (k : Fin 6) : ∀ a, (![0, 512 * k.val] : Fin 2 → ℕ) a + S512x512.size a ≤ S512x3072.size a := by
  intro a; have := k.isLt; fin_cases a <;> simp [Shape.size] <;> omega

/-- Column tile `k` of an expert's weights, of its scales, and of a block of the result. -/
def wTile (x : Vec F S1x4096x3072 .fp8e4m3) (k : Fin 6) : Vec F S1x4096x512 .fp8e4m3 :=
  fun p => x ((Rect.unit (s := S1x4096x3072) ![0, 0, 512 * k.val] S1x4096x512.size (inb_w k)).toLoadRect.idx p)
def sTile (x : Vec F S1x1x3072 .f32) (k : Fin 6) : Vec F S1x1x512 .f32 :=
  fun p => x ((Rect.unit (s := S1x1x3072) ![0, 0, 512 * k.val] S1x1x512.size (inb_s k)).toLoadRect.idx p)
def oTile (x : Vec F S512x3072 .bf16) (k : Fin 6) : Vec F S512x512 .bf16 :=
  fun p => x ((Rect.unit (s := S512x3072) ![0, 512 * k.val] S512x512.size (inb_o k)).toLoadRect.idx p)

/-- Tile `k` of the scaled product of a block of rows with one expert's weights. -/
def yTile (x0 : Vec F S512x4096 .fp8e4m3) (x1 : Vec F S512x1 .f32) (x2 : Vec F S1x4096x3072 .fp8e4m3) (x3 : Vec F S1x1x3072 .f32)
    (k : Fin 6) : FVec F S512x512 .bf16 := k0_pay5 x0 (wTile x2 k) x1 (sTile x3 k)

/-- Tile `k` merged with the tile `x4` the buffer held: rows `lo ≤ r < hi` are the product's, the others keep what was there when `fst`
is zero and are zero otherwise. -/
def mTile (lo hi fst : BitVec 32) (x0 : Vec F S512x4096 .fp8e4m3) (x1 : Vec F S512x1 .f32) (x2 : Vec F S1x4096x3072 .fp8e4m3)
    (x3 : Vec F S1x1x3072 .f32) (x4 : Vec F S512x3072 .bf16) (k : Fin 6) : FVec F S512x512 .bf16 :=
  k0_pay11 lo hi fst x0 (wTile x2 k) x1 (sTile x3 k) (oTile x4 k)

/-- A block put together from six column tiles. -/
def ofTiles (P : Fin 6 → FVec F S512x512 .bf16) : Vec F S512x3072 .bf16 := fun y =>
  P ⟨(y 1).val / 512, by have : (y 1).val < 3072 := (y 1).isLt; omega⟩
    (ix2 (n0 := 512) (n1 := 512) ⟨(y 0).val, (y 0).isLt⟩ ⟨(y 1).val % 512, Nat.mod_lt _ (by norm_num)⟩)

def outWhole (x0 : Vec F S512x4096 .fp8e4m3) (x1 : Vec F S512x1 .f32) (x2 : Vec F S1x4096x3072 .fp8e4m3) (x3 : Vec F S1x1x3072 .f32) :
    Vec F S512x3072 .bf16 := ofTiles (yTile x0 x1 x2 x3)

def outPart (lo hi fst : BitVec 32) (x0 : Vec F S512x4096 .fp8e4m3) (x1 : Vec F S512x1 .f32) (x2 : Vec F S1x4096x3072 .fp8e4m3)
    (x3 : Vec F S1x1x3072 .f32) (x4 : Vec F S512x3072 .bf16) : Vec F S512x3072 .bf16 := ofTiles (mTile lo hi fst x0 x1 x2 x3 x4)

/-! ## A buffer after the six stores -/

/-- A buffer stored tile by tile reads as the block of its tiles, whatever it held. -/
theorem read_tiles (v : View sig .tc .vmem S512x3072 .bf16) (f : v.ty.Contents (Elt F)) (P : Fin 6 → FVec F S512x512 .bf16) :
    v.read (Elt F) (v.writes (Elt F) f (View.tilePieces (s := S512x3072) S512x512.size (fun k : Fin 6 => ![0, 512 * k.val]) inb_o P 6 le_rfl))
      = ofTiles P := by
  funext y
  have h1 : (y 1).val < 3072 := (y 1).isLt
  refine View.read_tilePieces (s := S512x3072) v f S512x512.size (fun k : Fin 6 => ![0, 512 * k.val]) inb_o P 6 le_rfl y
    ⟨(y 1).val / 512, by omega⟩ (by show _ / 512 < 6; omega)
    (ix2 (n0 := 512) (n1 := 512) ⟨(y 0).val, (y 0).isLt⟩ ⟨(y 1).val % 512, Nat.mod_lt _ (by norm_num)⟩)
    (Fin.forall_fin_two.mpr ⟨?_, ?_⟩) (1 : Fin 2) ?_
  · show (y 0).val = 0 + (y 0).val; omega
  · show (y 1).val = 512 * ((y 1).val / 512) + (y 1).val % 512; omega
  · intro k hk
    have hk' : k.val ≠ (y 1).val / 512 := fun h => hk (Fin.ext h)
    show (y 1).val < 512 * k.val ∨ 512 * k.val + 512 ≤ (y 1).val
    omega

/-- The same for the six stores written out. -/
theorem read_six (v : View sig .tc .vmem S512x3072 .bf16) (f : v.ty.Contents (Elt F)) (P : Fin 6 → FVec F S512x512 .bf16)
    (P0 P1 P2 P3 P4 P5 : FVec F S512x512 .bf16) (h0 : P0 = P 0) (h1 : P1 = P 1) (h2 : P2 = P 2) (h3 : P3 = P 3) (h4 : P4 = P 4) (h5 : P5 = P 5) :
    v.read (Elt F) (v.writes (Elt F) f
      [⟨Rect.unit (s := S512x3072) ![0, 2560] S512x512.size inb_S512x3072_S512x512_0_2560, P5⟩,
        ⟨Rect.unit (s := S512x3072) ![0, 2048] S512x512.size inb_S512x3072_S512x512_0_2048, P4⟩,
        ⟨Rect.unit (s := S512x3072) ![0, 1536] S512x512.size inb_S512x3072_S512x512_0_1536, P3⟩,
        ⟨Rect.unit (s := S512x3072) ![0, 1024] S512x512.size inb_S512x3072_S512x512_0_1024, P2⟩,
        ⟨Rect.unit (s := S512x3072) ![0, 512] S512x512.size inb_S512x3072_S512x512_0_512, P1⟩,
        ⟨Rect.unit (s := S512x3072) ![0, 0] S512x512.size inb_S512x3072_S512x512_0_0, P0⟩]) = ofTiles P := by
  subst h0 h1 h2 h3 h4 h5
  exact read_tiles v f P

/-! ## Loads of a whole buffer and of one tile -/

section Loads
variable {e : EltTy}

theorem load_x0 {m : Memref sig .tc .vmem S512x4096 .fp8e4m3} (h : m.IsWhole) (x : Vec F S512x4096 .fp8e4m3) :
    View.readAt (Elt F) m.view (Rect.unit (s := S512x4096) ![0, 0] S512x4096.size inb_S512x4096_S512x4096_0_0).toLoadRect (h.unread x) = x := by
  funext p; rw [h.readAt_unread]; congr 1; funext a; apply Fin.ext
  fin_cases a
  · show 0 + 1 * (p 0).val = (p 0).val; omega
  · show 0 + 1 * (p 1).val = (p 1).val; omega
theorem load_x1 {m : Memref sig .tc .vmem S512x1 .f32} (h : m.IsWhole) (x : Vec F S512x1 .f32) :
    View.readAt (Elt F) m.view (Rect.unit (s := S512x1) ![0, 0] S512x1.size inb_S512x1_S512x1_0_0).toLoadRect (h.unread x) = x := by
  funext p; rw [h.readAt_unread]; congr 1; funext a; apply Fin.ext
  fin_cases a
  · show 0 + 1 * (p 0).val = (p 0).val; omega
  · show 0 + 1 * (p 1).val = (p 1).val; omega
theorem load_w {m : Memref sig .tc .vmem S1x4096x3072 .fp8e4m3} (h : m.IsWhole) (x : Vec F S1x4096x3072 .fp8e4m3) (k : Fin 6) :
    View.readAt (Elt F) m.view (Rect.unit (s := S1x4096x3072) ![0, 0, 512 * k.val] S1x4096x512.size (inb_w k)).toLoadRect (h.unread x) = wTile x k := by
  funext p; exact h.readAt_unread x _ p
theorem load_s {m : Memref sig .tc .vmem S1x1x3072 .f32} (h : m.IsWhole) (x : Vec F S1x1x3072 .f32) (k : Fin 6) :
    View.readAt (Elt F) m.view (Rect.unit (s := S1x1x3072) ![0, 0, 512 * k.val] S1x1x512.size (inb_s k)).toLoadRect (h.unread x) = sTile x k := by
  funext p; exact h.readAt_unread x _ p
theorem load_o {m : Memref sig .tc .vmem S512x3072 .bf16} (h : m.IsWhole) (x : Vec F S512x3072 .bf16) (k : Fin 6) :
    View.readAt (Elt F) m.view (Rect.unit (s := S512x3072) ![0, 512 * k.val] S512x512.size (inb_o k)).toLoadRect (h.unread x) = oTile x k := by
  funext p; exact h.readAt_unread x _ p
end Loads

end Cert.KernelIdeal.Val
end
-- ==== Proof.Run.lean ====
/-
The kernel body at one grid point, on any staging buffers: what the two branches and neither leave in the result's
staging buffer.
-/
module
public import proofs.«01_k».proof.Proof.Body

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a one-cell load reads off a table. -/
abbrev wExp (c : Dev nD) (i : grid0.Coords) (xt : TbBuf0 (F := F) c tbM0_0) : BitVec 32 :=
  tbM0_0.view.readAt (Elt F) (Rect.unit (s := S199) (k0_off1 i) S1.size (k0_off1_inb i)).toLoadRect xt (Shape.Idx.first (numel1_S1.symm ▸ Nat.one_pos))
abbrev wBlk (c : Dev nD) (i : grid0.Coords) (xt : TbBuf0 (F := F) c tbM0_1) : BitVec 32 :=
  tbM0_1.view.readAt (Elt F) (Rect.unit (s := S199) (k0_off1 i) S1.size (k0_off1_inb i)).toLoadRect xt (Shape.Idx.first (numel1_S1.symm ▸ Nat.one_pos))
abbrev wVal1 (c : Dev nD) (i : grid0.Coords) (xt : TbBuf0 (F := F) c tbM0_2) : BitVec 32 :=
  tbM0_2.view.readAt (Elt F) (Rect.unit (s := S199) (k0_off3 i) S1.size (k0_off3_inb i)).toLoadRect xt (Shape.Idx.first (numel1_S1.symm ▸ Nat.one_pos))
abbrev wVal2 (c : Dev nD) (i : grid0.Coords) (xt : TbBuf0 (F := F) c tbM0_2) : BitVec 32 :=
  tbM0_2.view.readAt (Elt F) (Rect.unit (s := S199) (k0_off4 i) S1.size (k0_off4_inb i)).toLoadRect xt (Shape.Idx.first (numel1_S1.symm ▸ Nat.one_pos))
abbrev wFst (c : Dev nD) (i : grid0.Coords) (xt : TbBuf0 (F := F) c tbM0_3) : BitVec 32 :=
  tbM0_3.view.readAt (Elt F) (Rect.unit (s := S199) (k0_off5 i) S1.size (k0_off5_inb i)).toLoadRect xt (Shape.Idx.first (numel1_S1.symm ▸ Nat.one_pos))
abbrev wLo (c : Dev nD) (w : BitVec 32) (h : k0_chk1 w) (xt : TbBuf0 (F := F) c tbM0_4) : BitVec 32 :=
  tbM0_4.view.readAt (Elt F) (Rect.unit (s := S8) (k0_off2 w) S1.size (k0_off2_inb w h)).toLoadRect xt (Shape.Idx.first (numel1_S1.symm ▸ Nat.one_pos))
abbrev wHi (c : Dev nD) (w : BitVec 32) (h : k0_chk1 w) (xt : TbBuf0 (F := F) c tbM0_5) : BitVec 32 :=
  tbM0_5.view.readAt (Elt F) (Rect.unit (s := S8) (k0_off2 w) S1.size (k0_off2_inb w h)).toLoadRect xt (Shape.Idx.first (numel1_S1.symm ▸ Nat.one_pos))
theorem run_none (c : Dev nD) (i : grid0.Coords) (arg7 : Memref sig .tc .vmem S512x4096 .fp8e4m3) (harg7 : arg7.IsWhole) (arg8 : Memref sig .tc .vmem S512x1 .f32) (harg8 : arg8.IsWhole) (arg9 : Memref sig .tc .vmem S1x4096x3072 .fp8e4m3) (harg9 : arg9.IsWhole) (arg10 : Memref sig .tc .vmem S1x1x3072 .f32) (harg10 : arg10.IsWhole) (arg11 : Memref sig .tc .vmem S512x3072 .bf16) (harg11 : arg11.IsWhole)
    (x0 : Vec F S512x4096 .fp8e4m3) (x1 : Vec F S512x1 .f32) (x2 : Vec F S1x4096x3072 .fp8e4m3) (x3 : Vec F S1x1x3072 .f32) (x4 : Vec F S512x3072 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (k0_hw1 : k0_chk1 (wExp c i xt0))
    (hc1 : ¬ k0_cond1 (wBlk c i xt1) (wLo c _ k0_hw1 xt4) (wHi c _ k0_hw1 xt5) (wVal1 c i xt2) = 1#1) (hc2 : ¬ k0_cond2 (wBlk c i xt1) (wLo c _ k0_hw1 xt4) (wHi c _ k0_hw1 xt5) (wVal2 c i xt2) = 1#1) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare (x4) ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5) -∗ K ⟨⟩))
          ⊢ wp frame (wpE (defs₀ (F := F)) Variants.none c none) E (cc0_grouped_fp8_matmul i tbM0_0 htbM0_0 tbM0_1 htbM0_1 tbM0_2 htbM0_2 tbM0_3 htbM0_3 tbM0_4 htbM0_4 tbM0_5 htbM0_5 arg7 harg7 arg8 harg8 arg9 harg9 arg10 harg10 arg11 harg11) K := by
    intro E K
    simp only [cc0_grouped_fp8_matmul_eq_skeleton ]; unfold cc0_grouped_fp8_matmul_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, HT4, HT5, Hk⟩
    obtain rfl := harg7.eq_unread hf0; obtain rfl := harg8.eq_unread hf1; obtain rfl := harg9.eq_unread hf2; obtain rfl := harg10.eq_unread hf3; obtain rfl := harg11.eq_unread hf4
    sl_exec (disch := first | sl_exact k0_hw1 | sl_exact hc1 | sl_exact hc2)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      exact harg11.read_unread _
    isplitl [HT0]; · iexact HT0
    isplitl [HT1]; · iexact HT1
    isplitl [HT2]; · iexact HT2
    isplitl [HT3]; · iexact HT3
    isplitl [HT4]; · iexact HT4
    iexact HT5

theorem run_whole (c : Dev nD) (i : grid0.Coords) (arg7 : Memref sig .tc .vmem S512x4096 .fp8e4m3) (harg7 : arg7.IsWhole) (arg8 : Memref sig .tc .vmem S512x1 .f32) (harg8 : arg8.IsWhole) (arg9 : Memref sig .tc .vmem S1x4096x3072 .fp8e4m3) (harg9 : arg9.IsWhole) (arg10 : Memref sig .tc .vmem S1x1x3072 .f32) (harg10 : arg10.IsWhole) (arg11 : Memref sig .tc .vmem S512x3072 .bf16) (harg11 : arg11.IsWhole)
    (x0 : Vec F S512x4096 .fp8e4m3) (x1 : Vec F S512x1 .f32) (x2 : Vec F S1x4096x3072 .fp8e4m3) (x3 : Vec F S1x1x3072 .f32) (x4 : Vec F S512x3072 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (k0_hw1 : k0_chk1 (wExp c i xt0))
    (hc1 : k0_cond1 (wBlk c i xt1) (wLo c _ k0_hw1 xt4) (wHi c _ k0_hw1 xt5) (wVal1 c i xt2) = 1#1) (hc2 : ¬ k0_cond2 (wBlk c i xt1) (wLo c _ k0_hw1 xt4) (wHi c _ k0_hw1 xt5) (wVal2 c i xt2) = 1#1) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare (outWhole x0 x1 x2 x3) ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5) -∗ K ⟨⟩))
          ⊢ wp frame (wpE (defs₀ (F := F)) Variants.none c none) E (cc0_grouped_fp8_matmul i tbM0_0 htbM0_0 tbM0_1 htbM0_1 tbM0_2 htbM0_2 tbM0_3 htbM0_3 tbM0_4 htbM0_4 tbM0_5 htbM0_5 arg7 harg7 arg8 harg8 arg9 harg9 arg10 harg10 arg11 harg11) K := by
    intro E K
    simp only [cc0_grouped_fp8_matmul_eq_skeleton]; unfold cc0_grouped_fp8_matmul_skel; simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, HT4, HT5, Hk⟩
    obtain rfl := harg7.eq_unread hf0; obtain rfl := harg8.eq_unread hf1; obtain rfl := harg9.eq_unread hf2; obtain rfl := harg10.eq_unread hf3; obtain rfl := harg11.eq_unread hf4
    sl_exec (disch := first | sl_exact k0_hw1 | sl_exact hc1 | sl_exact hc2)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      exact read_six arg11.view _ (yTile x0 x1 x2 x3) _ _ _ _ _ _
        (congr (congr (congr (congrArg k0_pay5 (load_x0 harg7 x0)) (load_w harg9 x2 0)) (load_x1 harg8 x1)) (load_s harg10 x3 0))
        (congr (congr (congr (congrArg k0_pay5 (load_x0 harg7 x0)) (load_w harg9 x2 1)) (load_x1 harg8 x1)) (load_s harg10 x3 1))
        (congr (congr (congr (congrArg k0_pay5 (load_x0 harg7 x0)) (load_w harg9 x2 2)) (load_x1 harg8 x1)) (load_s harg10 x3 2))
        (congr (congr (congr (congrArg k0_pay5 (load_x0 harg7 x0)) (load_w harg9 x2 3)) (load_x1 harg8 x1)) (load_s harg10 x3 3))
        (congr (congr (congr (congrArg k0_pay5 (load_x0 harg7 x0)) (load_w harg9 x2 4)) (load_x1 harg8 x1)) (load_s harg10 x3 4))
        (congr (congr (congr (congrArg k0_pay5 (load_x0 harg7 x0)) (load_w harg9 x2 5)) (load_x1 harg8 x1)) (load_s harg10 x3 5))
    isplitl [HT0]; · iexact HT0
    isplitl [HT1]; · iexact HT1
    isplitl [HT2]; · iexact HT2
    isplitl [HT3]; · iexact HT3
    isplitl [HT4]; · iexact HT4
    iexact HT5

theorem run_part (c : Dev nD) (i : grid0.Coords) (arg7 : Memref sig .tc .vmem S512x4096 .fp8e4m3) (harg7 : arg7.IsWhole) (arg8 : Memref sig .tc .vmem S512x1 .f32) (harg8 : arg8.IsWhole) (arg9 : Memref sig .tc .vmem S1x4096x3072 .fp8e4m3) (harg9 : arg9.IsWhole) (arg10 : Memref sig .tc .vmem S1x1x3072 .f32) (harg10 : arg10.IsWhole) (arg11 : Memref sig .tc .vmem S512x3072 .bf16) (harg11 : arg11.IsWhole)
    (x0 : Vec F S512x4096 .fp8e4m3) (x1 : Vec F S512x1 .f32) (x2 : Vec F S1x4096x3072 .fp8e4m3) (x3 : Vec F S1x1x3072 .f32) (x4 : Vec F S512x3072 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xt5 : TbBuf0 (F := F) c tbM0_5) (k0_hw1 : k0_chk1 (wExp c i xt0))
    (hc1 : ¬ k0_cond1 (wBlk c i xt1) (wLo c _ k0_hw1 xt4) (wHi c _ k0_hw1 xt5) (wVal1 c i xt2) = 1#1) (hc2 : k0_cond2 (wBlk c i xt1) (wLo c _ k0_hw1 xt4) (wHi c _ k0_hw1 xt5) (wVal2 c i xt2) = 1#1) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare (outPart (Scalar.subi (wLo c _ k0_hw1 xt4) (Scalar.muli (wBlk c i xt1) 512#32)) (Scalar.subi (wHi c _ k0_hw1 xt5) (Scalar.muli (wBlk c i xt1) 512#32)) (wFst c i xt3) x0 x1 x2 x3 x4) ∗ tbPt0 c tbM0_0 xt0 ∗ tbPt0 c tbM0_1 xt1 ∗ tbPt0 c tbM0_2 xt2 ∗ tbPt0 c tbM0_3 xt3 ∗ tbPt0 c tbM0_4 xt4 ∗ tbPt0 c tbM0_5 xt5) -∗ K ⟨⟩))
          ⊢ wp frame (wpE (defs₀ (F := F)) Variants.none c none) E (cc0_grouped_fp8_matmul i tbM0_0 htbM0_0 tbM0_1 htbM0_1 tbM0_2 htbM0_2 tbM0_3 htbM0_3 tbM0_4 htbM0_4 tbM0_5 htbM0_5 arg7 harg7 arg8 harg8 arg9 harg9 arg10 harg10 arg11 harg11) K := by
    intro E K
    simp only [cc0_grouped_fp8_matmul_eq_skeleton]; unfold cc0_grouped_fp8_matmul_skel; simp only [k0_part3_eq_skeleton, k0_part4_eq_skeleton, k0_part5_eq_skeleton]; unfold k0_part3_skel k0_part4_skel k0_part5_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, HT4, HT5, Hk⟩
    obtain rfl := harg7.eq_unread hf0; obtain rfl := harg8.eq_unread hf1; obtain rfl := harg9.eq_unread hf2; obtain rfl := harg10.eq_unread hf3; obtain rfl := harg11.eq_unread hf4
    sl_exec (disch := first | sl_exact k0_hw1 | sl_exact hc1 | sl_exact hc2)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      exact read_six arg11.view _ (mTile (Scalar.subi (wLo c _ k0_hw1 xt4) (Scalar.muli (wBlk c i xt1) 512#32)) (Scalar.subi (wHi c _ k0_hw1 xt5) (Scalar.muli (wBlk c i xt1) 512#32)) (wFst c i xt3) x0 x1 x2 x3 x4) _ _ _ _ _ _
        (congr (congr (congr (congr (congrArg (k0_pay11 (Scalar.subi (wLo c _ k0_hw1 xt4) (Scalar.muli (wBlk c i xt1) 512#32)) (Scalar.subi (wHi c _ k0_hw1 xt5) (Scalar.muli (wBlk c i xt1) 512#32)) (wFst c i xt3)) (load_x0 harg7 x0)) (load_w harg9 x2 0)) (load_x1 harg8 x1)) (load_s harg10 x3 0)) (load_o harg11 x4 0))
        (congr (congr (congr (congr (congrArg (k0_pay11 (Scalar.subi (wLo c _ k0_hw1 xt4) (Scalar.muli (wBlk c i xt1) 512#32)) (Scalar.subi (wHi c _ k0_hw1 xt5) (Scalar.muli (wBlk c i xt1) 512#32)) (wFst c i xt3)) (load_x0 harg7 x0)) (load_w harg9 x2 1)) (load_x1 harg8 x1)) (load_s harg10 x3 1)) (load_o harg11 x4 1))
        (congr (congr (congr (congr (congrArg (k0_pay11 (Scalar.subi (wLo c _ k0_hw1 xt4) (Scalar.muli (wBlk c i xt1) 512#32)) (Scalar.subi (wHi c _ k0_hw1 xt5) (Scalar.muli (wBlk c i xt1) 512#32)) (wFst c i xt3)) (load_x0 harg7 x0)) (load_w harg9 x2 2)) (load_x1 harg8 x1)) (load_s harg10 x3 2)) (load_o harg11 x4 2))
        (congr (congr (congr (congr (congrArg (k0_pay11 (Scalar.subi (wLo c _ k0_hw1 xt4) (Scalar.muli (wBlk c i xt1) 512#32)) (Scalar.subi (wHi c _ k0_hw1 xt5) (Scalar.muli (wBlk c i xt1) 512#32)) (wFst c i xt3)) (load_x0 harg7 x0)) (load_w harg9 x2 3)) (load_x1 harg8 x1)) (load_s harg10 x3 3)) (load_o harg11 x4 3))
        (congr (congr (congr (congr (congrArg (k0_pay11 (Scalar.subi (wLo c _ k0_hw1 xt4) (Scalar.muli (wBlk c i xt1) 512#32)) (Scalar.subi (wHi c _ k0_hw1 xt5) (Scalar.muli (wBlk c i xt1) 512#32)) (wFst c i xt3)) (load_x0 harg7 x0)) (load_w harg9 x2 4)) (load_x1 harg8 x1)) (load_s harg10 x3 4)) (load_o harg11 x4 4))
        (congr (congr (congr (congr (congrArg (k0_pay11 (Scalar.subi (wLo c _ k0_hw1 xt4) (Scalar.muli (wBlk c i xt1) 512#32)) (Scalar.subi (wHi c _ k0_hw1 xt5) (Scalar.muli (wBlk c i xt1) 512#32)) (wFst c i xt3)) (load_x0 harg7 x0)) (load_w harg9 x2 5)) (load_x1 harg8 x1)) (load_s harg10 x3 5)) (load_o harg11 x4 5))
    isplitl [HT0]; · iexact HT0
    isplitl [HT1]; · iexact HT1
    isplitl [HT2]; · iexact HT2
    isplitl [HT3]; · iexact HT3
    isplitl [HT4]; · iexact HT4
    iexact HT5

end Cert.KernelIdeal.Val
end
-- ==== Proof.Tables.lean ====
/-
What a grid step reads of the schedule: its expert, its block, whether it is one of the schedule's steps and whether it
is the first of its block; and what follows of the windows' blocks and of the body's two conditions.
-/
module
public import proofs.«01_k».proof.Proof.Host
public import proofs.«01_k».proof.Proof.Run
public import Idealize.ShloMosaic.Lib.Affine
public import Idealize.ShloMosaic.Lib.WordArith

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WordCmp
open Cert.Sched (S E nb T tot st ex bk)

variable (m : (ℓ : Loc nD τ sig) → Buf (Elt F) ℓ)

/-! ## The words a step reads -/

theorem i_lt (i : grid0.Coords) : (i 0).val < 199 := (i 0).isLt

theorem off1_val (i : grid0.Coords) : (BitVec.ofNat 32 (i 0).val).toNat = (i 0).val := by
  have := i_lt i
  exact toNat_ofNat_of_lt (w := 32) (by omega)

/-- The group sizes, and what is assumed of them. -/
abbrev gD : ℕ → ℕ := gN m (0 : Dev nD)
abbrev Split : Prop := S (gD m) 8 = 98304

theorem tbl0_at (hs : Split m) (p : S199.Idx) (s : ℕ) (h : (p 0).val = s) : (tbl m 0 : IVec S199 32) p = BitVec.ofNat 32 (ex (gD m) s) := by
  subst h
  exact (congrArg (tbl m 0 : IVec S199 32) (funext fun a => by match a with | ⟨0, _⟩ => rfl)).trans (V_v24 m 0 hs (p 0))
theorem tbl1_at (hs : Split m) (p : S199.Idx) (s : ℕ) (h : (p 0).val = s) : (tbl m 1 : IVec S199 32) p = BitVec.ofNat 32 (bk (gD m) s) := by
  subst h
  exact (congrArg (tbl m 1 : IVec S199 32) (funext fun a => by match a with | ⟨0, _⟩ => rfl)).trans (V_v41 m 0 hs (p 0))
theorem tbl2_at (hs : Split m) (p : S199.Idx) (s : ℕ) (h : (p 0).val = s) : (tbl m 2 : IVec S199 32) p = BitVec.ofNat 32 (if s < tot (gD m) then 1 else 0) := by
  subst h
  exact (congrArg (tbl m 2 : IVec S199 32) (funext fun a => by match a with | ⟨0, _⟩ => rfl)).trans (V_v47 m 0 hs (p 0))
theorem tbl3_at_zero (hs : Split m) (p : S199.Idx) (h : (p 0).val = 0) : (tbl m 3 : IVec S199 32) p = BitVec.ofNat 32 1 :=
  (congrArg (tbl m 3 : IVec S199 32) (funext fun a => by match a with | ⟨0, _⟩ => exact Fin.ext h)).trans (V_v48_zero m 0 hs)
theorem tbl3_at_succ (hs : Split m) (p : S199.Idx) (s : ℕ) (h : (p 0).val = s + 1) : (tbl m 3 : IVec S199 32) p
    = BitVec.ofNat 32 (if bk (gD m) (s + 1) ≠ bk (gD m) s then 1 else 0) :=
  (congrArg (tbl m 3 : IVec S199 32) (funext fun a => by match a with | ⟨0, _⟩ => exact Fin.ext h)).trans
    (V_v48_succ m 0 hs s (h ▸ (p 0).isLt))
theorem tbl4_at (hs : Split m) (p : S8.Idx) (e : ℕ) (h : (p 0).val = e) : (tbl m 4 : IVec S8 32) p = BitVec.ofNat 32 (S (gD m) e) := by
  subst h
  exact (congrArg (tbl m 4 : IVec S8 32) (funext fun a => by match a with | ⟨0, _⟩ => rfl)).trans (V_v1 m 0 hs (p 0))
theorem tbl5_at (p : S8.Idx) (e : ℕ) (h : (p 0).val = e) : (tbl m 5 : IVec S8 32) p = BitVec.ofNat 32 (E (gD m) e) := by
  subst h
  exact (congrArg (tbl m 5 : IVec S8 32) (funext fun a => by match a with | ⟨0, _⟩ => rfl)).trans (V_v0 m 0 (p 0))

theorem wExp_eq (hs : Split m) (c : Dev nD) (i : grid0.Coords) : wExp c i (tbl m 0) = BitVec.ofNat 32 (ex (gD m) (i 0).val) :=
  tbl0_at m hs _ _ (by show (BitVec.ofNat 32 (i 0).val).toNat + 0 * 1 = _; rw [off1_val]; rfl)
theorem wBlk_eq (hs : Split m) (c : Dev nD) (i : grid0.Coords) : wBlk c i (tbl m 1) = BitVec.ofNat 32 (bk (gD m) (i 0).val) :=
  tbl1_at m hs _ _ (by show (BitVec.ofNat 32 (i 0).val).toNat + 0 * 1 = _; rw [off1_val]; rfl)
theorem wVal1_eq (hs : Split m) (c : Dev nD) (i : grid0.Coords) : wVal1 c i (tbl m 2) = BitVec.ofNat 32 (if (i 0).val < tot (gD m) then 1 else 0) :=
  tbl2_at m hs _ _ (by show (BitVec.ofNat 32 (i 0).val).toNat + 0 * 1 = _; rw [off1_val]; rfl)
theorem wVal2_eq (hs : Split m) (c : Dev nD) (i : grid0.Coords) : wVal2 c i (tbl m 2) = BitVec.ofNat 32 (if (i 0).val < tot (gD m) then 1 else 0) :=
  tbl2_at m hs _ _ (by show (BitVec.ofNat 32 (i 0).val).toNat + 0 * 1 = _; rw [off1_val]; rfl)
theorem wFst_zero (hs : Split m) (c : Dev nD) (i : grid0.Coords) (h : (i 0).val = 0) : wFst c i (tbl m 3) = BitVec.ofNat 32 1 :=
  tbl3_at_zero m hs _ (by show (BitVec.ofNat 32 (i 0).val).toNat + 0 * 1 = _; rw [off1_val, h])
theorem wFst_succ (hs : Split m) (c : Dev nD) (i : grid0.Coords) (s : ℕ) (h : (i 0).val = s + 1) : wFst c i (tbl m 3)
    = BitVec.ofNat 32 (if bk (gD m) (s + 1) ≠ bk (gD m) s then 1 else 0) :=
  tbl3_at_succ m hs _ _ (by show (BitVec.ofNat 32 (i 0).val).toNat + 0 * 1 = _; rw [off1_val, h])

theorem off2_val {e : ℕ} (he : e < 8) : (BitVec.ofNat 32 e).toNat = e := toNat_ofNat_of_lt (w := 32) (by omega)

theorem wLo_eq (hs : Split m) (c : Dev nD) (w : BitVec 32) (h : k0_chk1 w) (e : ℕ) (he : e < 8) (hw : w = BitVec.ofNat 32 e) :
    wLo c w h (tbl m 4) = BitVec.ofNat 32 (S (gD m) e) :=
  tbl4_at m hs _ _ (by show w.toNat + 0 * 1 = _; rw [hw, off2_val he]; rfl)
theorem wHi_eq (c : Dev nD) (w : BitVec 32) (h : k0_chk1 w) (e : ℕ) (he : e < 8) (hw : w = BitVec.ofNat 32 e) :
    wHi c w h (tbl m 5) = BitVec.ofNat 32 (E (gD m) e) :=
  tbl5_at m _ _ (by show w.toNat + 0 * 1 = _; rw [hw, off2_val he]; rfl)

/-! ## The windows' blocks lie inside their arrays -/

theorem at1_eq (hs : Split m) (i : grid0.Coords) (h) : ((tbl m).at 1 (Rect.unit (s := S199) ![(BitVec.ofNat 32 (i 0).val).toNat] S1.size h) numel1_S1 : BitVec 32)
    = BitVec.ofNat 32 (bk (gD m) (i 0).val) :=
  tbl1_at m hs _ _ (by show (BitVec.ofNat 32 (i 0).val).toNat + 0 * 1 = _; rw [off1_val]; rfl)
theorem at0_eq (hs : Split m) (i : grid0.Coords) (h) : ((tbl m).at 0 (Rect.unit (s := S199) ![(BitVec.ofNat 32 (i 0).val).toNat] S1.size h) numel1_S1 : BitVec 32)
    = BitVec.ofNat 32 (ex (gD m) (i 0).val) :=
  tbl0_at m hs _ _ (by show (BitVec.ofNat 32 (i 0).val).toNat + 0 * 1 = _; rw [off1_val]; rfl)

theorem bk_toNat (hs : Split m) (s : ℕ) : (BitVec.ofNat 32 (bk (gD m) s)).toNat = bk (gD m) s :=
  toNat_ofNat_of_lt (w := 32) (by have := Cert.Sched.bk_lt hs s; omega)

theorem tr0_eq (hs : Split m) (i : grid0.Coords) : cc0_transform_0 k0_off1_inb numel1_S1 (tbl m) i = ![bk (gD m) (i 0).val, 0] := by
  exact congrArg (fun n : ℕ => ![n, 0]) ((congrArg BitVec.toNat (at1_eq m hs i _)).trans (bk_toNat m hs _))
theorem tr1_eq (hs : Split m) (i : grid0.Coords) : cc0_transform_1 k0_off1_inb numel1_S1 (tbl m) i = ![bk (gD m) (i 0).val, 0] := by
  exact congrArg (fun n : ℕ => ![n, 0]) ((congrArg BitVec.toNat (at1_eq m hs i _)).trans (bk_toNat m hs _))
theorem tr2_eq (hs : Split m) (i : grid0.Coords) : cc0_transform_2 k0_off1_inb numel1_S1 (tbl m) i = ![ex (gD m) (i 0).val, 0, 0] := by
  exact congrArg (fun n : ℕ => ![n, 0, 0]) ((congrArg BitVec.toNat (at0_eq m hs i _)).trans (off2_val (Cert.Sched.ex_lt hs _)))
theorem tr3_eq (hs : Split m) (i : grid0.Coords) : cc0_transform_3 k0_off1_inb numel1_S1 (tbl m) i = ![ex (gD m) (i 0).val, 0, 0] := by
  exact congrArg (fun n : ℕ => ![n, 0, 0]) ((congrArg BitVec.toNat (at0_eq m hs i _)).trans (off2_val (Cert.Sched.ex_lt hs _)))
theorem tr4_eq (hs : Split m) (i : grid0.Coords) : cc0_transform_4 k0_off1_inb numel1_S1 (tbl m) i = ![bk (gD m) (i 0).val, 0] := by
  exact congrArg (fun n : ℕ => ![n, 0]) ((congrArg BitVec.toNat (at1_eq m hs i _)).trans (bk_toNat m hs _))

theorem ok_of (hs : Split m) : Ok m := by
  refine ⟨fun i => ⟨fun a => ?_, .inr ?_⟩, fun i => ⟨fun a => ?_, .inl rfl⟩, fun i => ⟨fun a => ?_, .inr ?_⟩, fun i => ⟨fun a => ?_, .inl rfl⟩, fun i => ⟨fun a => ?_, .inr ?_⟩⟩
  · rw [tr0_eq m hs]; have := Cert.Sched.bk_lt hs (i 0).val
    match a with
    | ⟨0, _⟩ => show (bk (gD m) (i 0).val + 1) * 512 ≤ 98304; omega
    | ⟨1, _⟩ => show (0 + 1) * 4096 ≤ 4096; omega
  · exact Affine.block_words_dvd (by decide) (by decide)
  · rw [tr1_eq m hs]; have := Cert.Sched.bk_lt hs (i 0).val
    match a with
    | ⟨0, _⟩ => show (bk (gD m) (i 0).val + 1) * 512 ≤ 98304; omega
    | ⟨1, _⟩ => show (0 + 1) * 1 ≤ 1; omega
  · rw [tr2_eq m hs]; have := Cert.Sched.ex_lt hs (i 0).val
    match a with
    | ⟨0, _⟩ => show (ex (gD m) (i 0).val + 1) * 1 ≤ 8; omega
    | ⟨1, _⟩ => show (0 + 1) * 4096 ≤ 4096; omega
    | ⟨2, _⟩ => show (0 + 1) * 3072 ≤ 3072; omega
  · exact Affine.block_words_rows (by decide) (by decide)
  · rw [tr3_eq m hs]; have := Cert.Sched.ex_lt hs (i 0).val
    match a with
    | ⟨0, _⟩ => show (ex (gD m) (i 0).val + 1) * 1 ≤ 8; omega
    | ⟨1, _⟩ => show (0 + 1) * 1 ≤ 1; omega
    | ⟨2, _⟩ => show (0 + 1) * 3072 ≤ 3072; omega
  · rw [tr4_eq m hs]; have := Cert.Sched.bk_lt hs (i 0).val
    match a with
    | ⟨0, _⟩ => show (bk (gD m) (i 0).val + 1) * 512 ≤ 98304; omega
    | ⟨1, _⟩ => show (0 + 1) * 3072 ≤ 3072; omega
  · exact Affine.block_words_dvd (by decide) (by decide)

theorem chk_of {w : BitVec 32} {e : ℕ} (he : e < 8) (hw : w = BitVec.ofNat 32 e) : k0_chk1 w := by
  intro a
  match a with
  | ⟨0, _⟩ => show w.toNat + 1 ≤ 8; rw [hw, off2_val he]; omega

theorem chk (hs : Split m) (c : Dev nD) (i : grid0.Coords) : k0_chk1 (wExp c i (tbl m 0)) := chk_of (Cert.Sched.ex_lt hs _) (wExp_eq m hs c i)

/-! ## The body's conditions -/

theorem toInt_small {a : ℕ} (h : a < 2 ^ 31) : (BitVec.ofNat 32 a).toInt = a := toInt_ofNat_of_lt (w := 32) h

/-- A row number counted from the first row of a block. -/
theorem rel_toInt {a b : ℕ} (ha : a ≤ 98304) (hb : b < 192) :
    (Scalar.subi (BitVec.ofNat 32 a) (Scalar.muli (BitVec.ofNat 32 b) 512#32)).toInt = (a : ℤ) - (b * 512 : ℕ) := by
  have e : Scalar.muli (BitVec.ofNat 32 b) 512#32 = BitVec.ofNat 32 (b * 512) := (BitVec.ofNat_mul b 512).symm
  have h1 := toInt_small (a := a) (by omega)
  have h2 := toInt_small (a := b * 512) (by omega)
  rw [e]
  exact (WordArith.toInt_subi_of_nonneg _ _ (by rw [h1]; omega) (by rw [h2]; omega)).trans (by rw [h1, h2])

/-- Whether a block lies inside an expert's rows, as the body finds it. -/
theorem whole_bit {a b n : ℕ} (ha : a ≤ 98304) (hb : b < 192) (hn : n ≤ 98304) :
    Scalar.andi (Scalar.cmpi .sle (Scalar.subi (BitVec.ofNat 32 a) (Scalar.muli (BitVec.ofNat 32 b) 512#32)) 0#32)
      (Scalar.cmpi .sge (Scalar.subi (BitVec.ofNat 32 n) (Scalar.muli (BitVec.ofNat 32 b) 512#32)) 512#32)
    = BitVec.ofBool (decide (a ≤ b * 512 ∧ b * 512 + 512 ≤ n)) := by
  show IntOp.andi (IntOp.cmpi .sle _ _) (IntOp.cmpi .sge _ _) = _
  rw [cmpi_sle_eq, cmpi_sge_eq, rel_toInt ha hb, rel_toInt hn hb, andi_ofBool, ← Bool.decide_and]
  refine congrArg BitVec.ofBool (decide_eq_decide.2 (and_congr ?_ ?_))
  · show (a : ℤ) - (b * 512 : ℕ) ≤ (0#32).toInt ↔ _
    rw [show (0#32 : BitVec 32).toInt = 0 from rfl]; omega
  · show (512#32 : BitVec 32).toInt ≤ (n : ℤ) - (b * 512 : ℕ) ↔ _
    rw [show (512#32 : BitVec 32).toInt = 512 from rfl]; omega

theorem valid_bit (p : Prop) [Decidable p] : Scalar.cmpi .eq (BitVec.ofNat 32 (if p then 1 else 0)) 1#32 = BitVec.ofBool (decide p) := by
  by_cases h : p <;> simp only [h, if_true, if_false] <;> rfl

theorem bit_cond (p q : Bool) : Scalar.cmpi .ne (Scalar.extui (Scalar.andi (BitVec.ofBool p) (BitVec.ofBool q)) : BitVec 32) 0#32 = BitVec.ofBool (p && q) := by
  cases p <;> cases q <;> rfl

theorem cond1_eq {a b n : ℕ} (p : Prop) [Decidable p] (ha : a ≤ 98304) (hb : b < 192) (hn : n ≤ 98304) :
    k0_cond1 (BitVec.ofNat 32 b) (BitVec.ofNat 32 a) (BitVec.ofNat 32 n) (BitVec.ofNat 32 (if p then 1 else 0))
    = BitVec.ofBool (decide p && decide (a ≤ b * 512 ∧ b * 512 + 512 ≤ n)) := by
  unfold k0_cond1
  dsimp only
  rw [whole_bit ha hb hn, valid_bit]; exact bit_cond _ _

theorem cond2_eq {a b n : ℕ} (p : Prop) [Decidable p] (ha : a ≤ 98304) (hb : b < 192) (hn : n ≤ 98304) :
    k0_cond2 (BitVec.ofNat 32 b) (BitVec.ofNat 32 a) (BitVec.ofNat 32 n) (BitVec.ofNat 32 (if p then 1 else 0))
    = BitVec.ofBool (decide p && !decide (a ≤ b * 512 ∧ b * 512 + 512 ≤ n)) := by
  unfold k0_cond2
  dsimp only
  rw [whole_bit ha hb hn, valid_bit,
    show ∀ q : Bool, Scalar.xori (BitVec.ofBool q) 1#1 = BitVec.ofBool (!q) from fun q => by cases q <;> rfl]
  exact bit_cond _ _

/-- Whether step `s` is one of the schedule's and its block lies inside its expert's rows. -/
abbrev Whole (g : ℕ → ℕ) (s : ℕ) : Prop := S g (ex g s) ≤ bk g s * 512 ∧ bk g s * 512 + 512 ≤ E g (ex g s)

theorem S_le' (hs : Split m) (s : ℕ) : S (gD m) (ex (gD m) s) ≤ 98304 := S_le m 0 hs _ (Cert.Sched.ex_lt hs s).le
theorem E_le' (hs : Split m) (s : ℕ) : E (gD m) (ex (gD m) s) ≤ 98304 := Cert.Sched.E_le hs _ (Cert.Sched.ex_lt hs s)

theorem cond1_at (hs : Split m) (c : Dev nD) (i : grid0.Coords) (h : k0_chk1 (wExp c i (tbl m 0))) :
    k0_cond1 (wBlk c i (tbl m 1)) (wLo c _ h (tbl m 4)) (wHi c _ h (tbl m 5)) (wVal1 c i (tbl m 2))
    = BitVec.ofBool (decide ((i 0).val < tot (gD m)) && decide (Whole (gD m) (i 0).val)) := by
  rw [wBlk_eq m hs, wVal1_eq m hs, wLo_eq m hs c _ h _ (Cert.Sched.ex_lt hs _) (wExp_eq m hs c i), wHi_eq m c _ h _ (Cert.Sched.ex_lt hs _) (wExp_eq m hs c i)]
  exact cond1_eq _ (S_le' m hs _) (Cert.Sched.bk_lt hs _) (E_le' m hs _)

theorem cond2_at (hs : Split m) (c : Dev nD) (i : grid0.Coords) (h : k0_chk1 (wExp c i (tbl m 0))) :
    k0_cond2 (wBlk c i (tbl m 1)) (wLo c _ h (tbl m 4)) (wHi c _ h (tbl m 5)) (wVal2 c i (tbl m 2))
    = BitVec.ofBool (decide ((i 0).val < tot (gD m)) && !decide (Whole (gD m) (i 0).val)) := by
  rw [wBlk_eq m hs, wVal2_eq m hs, wLo_eq m hs c _ h _ (Cert.Sched.ex_lt hs _) (wExp_eq m hs c i), wHi_eq m c _ h _ (Cert.Sched.ex_lt hs _) (wExp_eq m hs c i)]
  exact cond2_eq _ (S_le' m hs _) (Cert.Sched.bk_lt hs _) (E_le' m hs _)

end Cert.KernelIdeal.Val
-- ==== Proof.Merge.lean ====
/-
What the result's buffer holds after each grid step, row by row.

`own g R` is the expert row `R` belongs to, `yRow` the row's scaled product with its expert's weights, and `held s` the
block of rows of step `s`: the rows finished so far, zero below them. A step whose block lies inside its expert's rows
leaves `held` (`whole_held`), and so does a step that merges its rows with what the buffer held (`part_held`).
-/
module
public import proofs.«01_k».proof.Proof.Sched
public import proofs.«01_k».proof.Proof.Tables
public import Idealize.ShloMosaic.Lib.ValueLayout

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WordCmp
open Cert.Sched (S E nb T tot st ex bk)

/-! ## The merged tile, element by element -/

/-- The bfloat16 zero. -/
abbrev zero16 : Elt F .bf16 := Scalar.ofBits .bf16 0x0000#16

theorem mask_at (lo hi : BitVec 32) (r : Fin 512) : k0_pay10 lo hi (ix2 r (0 : Fin 1))
    = BitVec.ofBool (decide (lo.toInt ≤ (r.val : ℤ)) && decide ((r.val : ℤ) < hi.toInt)) := by
  have hr : (BitVec.ofNat 32 (0 * 512 + r.val)).toInt = r.val := by
    rw [Nat.zero_mul, Nat.zero_add]; exact toInt_small (by have := r.isLt; omega)
  show IntOp.andi (IntOp.cmpi .sge (BitVec.ofNat 32 (0 * 512 + r.val)) lo) (IntOp.cmpi .slt (BitVec.ofNat 32 (0 * 512 + r.val)) hi) = _
  rw [cmpi_sge_eq, cmpi_slt_eq, andi_ofBool, hr]

theorem bcast_col {α : Type} (v : S512x1.Idx → α) (r j : Fin 512) :
    broadcastTo S512x512 v broadcasts_S512x1_S512x512 (ix2 r j) = v (ix2 r (0 : Fin 1)) := by
  refine broadcastTo_apply v _ (ix2 r j) (ix2 r (0 : Fin 1)) fun ax => ?_
  match ax with
  | ⟨0, _⟩ => rfl
  | ⟨1, _⟩ => rfl

theorem pay11_at (lo hi fst : BitVec 32) (x : Vec F S512x4096 .fp8e4m3) (w : Vec F S1x4096x512 .fp8e4m3) (xs : Vec F S512x1 .f32)
    (ws : Vec F S1x1x512 .f32) (o : Vec F S512x512 .bf16) (r j : Fin 512) :
    k0_pay11 lo hi fst x w xs ws o (ix2 r j)
      = if lo.toInt ≤ (r.val : ℤ) ∧ (r.val : ℤ) < hi.toInt then k0_pay5 x w xs ws (ix2 r j)
        else if fst = 0#32 then o (ix2 r j) else zero16 := by
  show Scalar.select (broadcastTo S512x512 (shapeCast S512x1 (k0_pay10 lo hi) shapeCasts_S512x1_S512x1) broadcasts_S512x1_S512x512 (ix2 r j))
    (k0_pay5 x w xs ws (ix2 r j))
    ((Scalar.select (Scalar.cmpi .eq fst 0#32) (shapeCast S512x512 o shapeCasts_S512x512_S512x512) (broadcast S512x512 zero16) : FVec F S512x512 .bf16) (ix2 r j)) = _
  rw [bcast_col, shapeCast_self, shapeCast_self, mask_at, ← Bool.decide_and, scalar_cmpi_eq, cmpi_eq_eq, select_decide, select_decide]
  by_cases h : fst = 0#32
  · rw [if_pos h, if_pos h]
  · rw [if_neg h, if_neg h]; rfl

theorem ofTiles_at (P : Fin 6 → FVec F S512x512 .bf16) (r : Fin 512) (j : Fin 3072) : ofTiles P (ix2 r j)
    = P ⟨j.val / 512, by omega⟩ (ix2 r ⟨j.val % 512, Nat.mod_lt _ (by norm_num)⟩) := rfl

theorem oTile_at (x : Vec F S512x3072 .bf16) (r : Fin 512) (j : Fin 3072) :
    oTile x ⟨j.val / 512, by omega⟩ (ix2 r ⟨j.val % 512, Nat.mod_lt _ (by norm_num)⟩) = x (ix2 r j) := by
  refine congrArg x (funext fun a => Fin.ext ?_)
  match a with
  | ⟨0, _⟩ => show 0 + 1 * r.val = r.val; omega
  | ⟨1, _⟩ => show 512 * (j.val / 512) + 1 * (j.val % 512) = j.val; omega

theorem outPart_at (lo hi fst : BitVec 32) (x0 : Vec F S512x4096 .fp8e4m3) (x1 : Vec F S512x1 .f32) (x2 : Vec F S1x4096x3072 .fp8e4m3)
    (x3 : Vec F S1x1x3072 .f32) (x4 : Vec F S512x3072 .bf16) (r : Fin 512) (j : Fin 3072) :
    outPart lo hi fst x0 x1 x2 x3 x4 (ix2 r j)
      = if lo.toInt ≤ (r.val : ℤ) ∧ (r.val : ℤ) < hi.toInt then outWhole x0 x1 x2 x3 (ix2 r j)
        else if fst = 0#32 then x4 (ix2 r j) else zero16 := by
  unfold outPart outWhole
  rw [ofTiles_at, ofTiles_at]
  unfold mTile yTile
  rw [pay11_at, oTile_at]

/-! ## Rows -/

/-- The expert row `R` belongs to: how many experts' rows end at or before it. -/
def own (g : ℕ → ℕ) (R : ℕ) : ℕ := ∑ e ∈ Finset.range 8, if E g e ≤ R then 1 else 0

theorem own_eq {g : ℕ → ℕ} {e R : ℕ} (he : e < 8) (h1 : S g e ≤ R) (h2 : R < E g e) : own g R = e := by
  have hm := Cert.Sched.S_mono (g := g)
  have key : ∀ k, (if E g k ≤ R then 1 else 0) = if k < e then 1 else 0 := fun k => by
    by_cases hk : k < e
    · rw [if_pos hk, if_pos]; exact (hm (show k + 1 ≤ e by omega)).trans h1
    · rw [if_neg hk, if_neg]
      have : E g e ≤ E g k := hm (show e + 1 ≤ k + 1 by omega)
      omega
  unfold own
  rw [Finset.sum_congr rfl fun k _ => key k]
  interval_cases e <;> rfl

section
variable (a0 : Vec F S98304x4096 .fp8e4m3) (a1 : Vec F S98304x1 .f32) (a3 : Vec F S8x4096x3072 .fp8e4m3) (a4 : Vec F S8x1x3072 .f32)

/-- Block `b` of the rows and of their scales; expert `e`'s weights and their scales. -/
def xB (b : Fin 192) : Vec F S512x4096 .fp8e4m3 := fun p =>
  a0 (ix2 (n0 := 98304) (n1 := 4096) ⟨b.val * 512 + (p 0).val, by have : (p 0).val < 512 := (p 0).isLt; omega⟩ (p 1))
def sB (b : Fin 192) : Vec F S512x1 .f32 := fun p =>
  a1 (ix2 (n0 := 98304) (n1 := 1) ⟨b.val * 512 + (p 0).val, by have : (p 0).val < 512 := (p 0).isLt; omega⟩ (p 1))
def wB (e : Fin 8) : Vec F S1x4096x3072 .fp8e4m3 := fun p => a3 (ix3 (n0 := 8) (n1 := 4096) (n2 := 3072) e (p 1) (p 2))
def vB (e : Fin 8) : Vec F S1x1x3072 .f32 := fun p => a4 (ix3 (n0 := 8) (n1 := 1) (n2 := 3072) e (p 1) (p 2))

/-- The scaled product of block `b`'s rows with expert `e`'s weights. -/
def prod (b : Fin 192) (e : Fin 8) : Vec F S512x3072 .bf16 := outWhole (xB a0 b) (sB a1 b) (wB a3 e) (vB a4 e)

/-- Row `R` of the result. -/
def yRow (g : ℕ → ℕ) (R : ℕ) (j : Fin 3072) : Elt F .bf16 :=
  prod a0 a1 a3 a4 ⟨R / 512 % 192, Nat.mod_lt _ (by norm_num)⟩ ⟨own g R % 8, Nat.mod_lt _ (by norm_num)⟩
    (ix2 ⟨R % 512, Nat.mod_lt _ (by norm_num)⟩ j)

/-- What the buffer holds after step `s`. -/
def held (g : ℕ → ℕ) (s : ℕ) : Vec F S512x3072 .bf16 := fun y =>
  if bk g s * 512 + (y 0).val < E g (ex g s) then yRow a0 a1 a3 a4 g (bk g s * 512 + (y 0).val) (y 1) else zero16

variable {g : ℕ → ℕ} (hs : S g 8 = 98304)
include hs

omit hs in
theorem yRow_eq {R : ℕ} (b : Fin 192) (e : Fin 8) (r : Fin 512) (j : Fin 3072) (h1 : R / 512 = b.val) (h2 : own g R = e.val) (h3 : R % 512 = r.val) :
    yRow a0 a1 a3 a4 g R j = prod a0 a1 a3 a4 b e (ix2 r j) := by
  have e1 : (⟨R / 512 % 192, Nat.mod_lt _ (by norm_num)⟩ : Fin 192) = b := Fin.ext ((congrArg (· % 192) h1).trans (Nat.mod_eq_of_lt b.isLt))
  have e2 : (⟨own g R % 8, Nat.mod_lt _ (by norm_num)⟩ : Fin 8) = e := Fin.ext ((congrArg (· % 8) h2).trans (Nat.mod_eq_of_lt e.isLt))
  have e3 : (⟨R % 512, Nat.mod_lt _ (by norm_num)⟩ : Fin 512) = r := Fin.ext h3
  unfold yRow
  rw [e1, e2, e3]

theorem prod_row (s : ℕ) (r : Fin 512) (j : Fin 3072) (h1 : S g (ex g s) ≤ bk g s * 512 + r.val) (h2 : bk g s * 512 + r.val < E g (ex g s)) :
    prod a0 a1 a3 a4 ⟨bk g s, Cert.Sched.bk_lt hs s⟩ ⟨ex g s, Cert.Sched.ex_lt hs s⟩ (ix2 r j) = yRow a0 a1 a3 a4 g (bk g s * 512 + r.val) j := by
  have hr := r.isLt
  have hown : own g (bk g s * 512 + r.val) = ex g s := own_eq (Cert.Sched.ex_lt hs s) h1 h2
  have hb := Cert.Sched.bk_lt hs s
  have he := Cert.Sched.ex_lt hs s
  show prod a0 a1 a3 a4 ⟨bk g s, hb⟩ ⟨ex g s, he⟩ (ix2 r j) = _
  generalize bk g s = b at hown hb ⊢
  generalize ex g s = e at hown he ⊢
  exact (yRow_eq a0 a1 a3 a4 ⟨b, hb⟩ ⟨e, he⟩ r j (show (b * 512 + r.val) / 512 = b by omega) hown
    (show (b * 512 + r.val) % 512 = r.val by omega)).symm

/-- A step whose block lies inside its expert's rows leaves the block of products. -/
theorem whole_held (s : ℕ) (hw : Whole g s) :
    prod a0 a1 a3 a4 ⟨bk g s, Cert.Sched.bk_lt hs s⟩ ⟨ex g s, Cert.Sched.ex_lt hs s⟩ = held a0 a1 a3 a4 g s := by
  funext y
  obtain ⟨r, j, rfl⟩ : ∃ (r : Fin 512) (j : Fin 3072), y = ix2 r j := ⟨y 0, y 1, by funext a; match a with | ⟨0, _⟩ => rfl | ⟨1, _⟩ => rfl⟩
  have hr := r.isLt
  have h2 : bk g s * 512 + r.val < E g (ex g s) := by have := hw.2; omega
  rw [prod_row a0 a1 a3 a4 hs s r j (by have := hw.1; omega) h2]
  exact (if_pos h2).symm

/-- A step that merges: from zero, or from what the buffer held of the rows before its expert's. -/
theorem part_held (s : ℕ) (fst : BitVec 32) (x4 : Vec F S512x3072 .bf16)
    (hz : fst ≠ 0#32 → S g (ex g s) ≤ bk g s * 512)
    (hx : fst = 0#32 → ∀ (r : Fin 512) (j : Fin 3072), x4 (ix2 r j)
      = if bk g s * 512 + r.val < S g (ex g s) then yRow a0 a1 a3 a4 g (bk g s * 512 + r.val) j else zero16) :
    outPart (Scalar.subi (BitVec.ofNat 32 (S g (ex g s))) (Scalar.muli (BitVec.ofNat 32 (bk g s)) 512#32))
      (Scalar.subi (BitVec.ofNat 32 (E g (ex g s))) (Scalar.muli (BitVec.ofNat 32 (bk g s)) 512#32)) fst
      (xB a0 ⟨bk g s, Cert.Sched.bk_lt hs s⟩) (sB a1 ⟨bk g s, Cert.Sched.bk_lt hs s⟩) (wB a3 ⟨ex g s, Cert.Sched.ex_lt hs s⟩)
      (vB a4 ⟨ex g s, Cert.Sched.ex_lt hs s⟩) x4 = held a0 a1 a3 a4 g s := by
  funext y
  obtain ⟨r, j, rfl⟩ : ∃ (r : Fin 512) (j : Fin 3072), y = ix2 r j := ⟨y 0, y 1, by funext a; match a with | ⟨0, _⟩ => rfl | ⟨1, _⟩ => rfl⟩
  have hb := Cert.Sched.bk_lt hs s
  have hE : E g (ex g s) ≤ 98304 := Cert.Sched.E_le hs _ (Cert.Sched.ex_lt hs s)
  have hSE : S g (ex g s) ≤ E g (ex g s) := Cert.Sched.S_mono (Nat.le_succ _)
  rw [outPart_at, rel_toInt (hSE.trans hE) hb, rel_toInt hE hb]
  show _ = if bk g s * 512 + r.val < E g (ex g s) then yRow a0 a1 a3 a4 g (bk g s * 512 + r.val) j else zero16
  by_cases h2 : bk g s * 512 + r.val < E g (ex g s)
  · rw [if_pos h2]
    by_cases h1 : S g (ex g s) ≤ bk g s * 512 + r.val
    · rw [if_pos ⟨by omega, by omega⟩]
      exact prod_row a0 a1 a3 a4 hs s r j h1 h2
    · rw [if_neg (fun h => h1 (by omega))]
      by_cases hf : fst = 0#32
      · rw [if_pos hf, hx hf, if_pos (by omega)]
      · exact absurd (hz hf) (by omega)
  · rw [if_neg h2, if_neg (fun h => h2 (by omega))]
    by_cases hf : fst = 0#32
    · rw [if_pos hf, hx hf, if_neg (by omega)]
    · rw [if_neg hf]

omit hs in
/-- A step past the schedule's end changes nothing. -/
theorem held_congr {s u : ℕ} (h1 : ex g s = ex g u) (h2 : bk g s = bk g u) : held a0 a1 a3 a4 g s = held a0 a1 a3 a4 g u := by
  unfold held; rw [h1, h2]

end

end Cert.KernelIdeal.Val
-- ==== Proof.Product.lean ====
/-
The kernel's result over the extended reals: entry (R, j) is the product of row R with column j of its expert's weights, times the
row's scale, times the column's.
-/
module
public import proofs.«01_k».proof.Proof.Merge
public import proofs.«01_k».proof.Proof.Host
public import Idealize.ShloMosaic.Lib.MatmulPlain
public import Idealize.ShloMosaic.Lib.IdealHost
public import Idealize.ShloMosaic.Lib.Pipeline.Value

@[expose] public section

set_option maxRecDepth 16384

noncomputable section

namespace Cert.KernelIdeal.Val

open Cert.KernelIdeal.Gen
open Idealize.ShloMosaic Idealize.ShloMosaic.TcCoe
open Idealize.ShloMosaic.ValueIdx

theorem pay5_at (x : Vec Ideal S512x4096 .fp8e4m3) (w : Vec Ideal S1x4096x512 .fp8e4m3) (s : Vec Ideal S512x1 .f32) (v : Vec Ideal S1x1x512 .f32)
    (r c : Fin 512) : k0_pay5 (F := Ideal) x w s v (ix2 r c)
    = ((∑ k : Fin 4096, (x (ix2 r k) : EReal) * (w (ix3 (0 : Fin 1) k c) : EReal)) * (s (ix2 r (0 : Fin 1)) : EReal)) * (v (ix3 (0 : Fin 1) (0 : Fin 1) c) : EReal) := by
  unfold k0_pay5
  have hm : FloatOps.matmul (F := Ideal) (φ₁ := .fp8e4m3) (φ₂ := .fp8e4m3) dot_S512x4096_S4096x512_S512x512_1_0_0_1_n_n none x (shapeCast S4096x512 w shapeCasts_S1x4096x512_S4096x512)
      (constant S512x512 .f32 0x00000000#32) (ix2 r c) = ∑ k : Fin 4096, (x (ix2 r k) : EReal) * (w (ix3 (0 : Fin 1) k c) : EReal) := by
    refine (Ideal.matmul_plain_apply (φ₁ := .fp8e4m3) (φ₂ := .fp8e4m3) (M := 512) (K := 4096) (N := 512) none x (shapeCast S4096x512 w shapeCasts_S1x4096x512_S4096x512) (constant S512x512 .f32 0x00000000#32) r c).trans ?_
    have h0 : (constant (F := Ideal) S512x512 .f32 0x00000000#32 (ix2 r c) : EReal) = 0 := Ideal.ofBits_zero_f32
    rw [h0, zero_add]
    refine Finset.sum_congr rfl fun k _ => congrArg (fun z : EReal => (x (ix2 r k) : EReal) * z) ?_
    refine (shapeCast_dropUnit_apply ![4096, 512] w shapeCasts_S1x4096x512_S4096x512 (ix2 k c)).trans (congrArg w (funext fun a => ?_))
    match a with
    | ⟨0, _⟩ => rfl
    | ⟨1, _⟩ => rfl
    | ⟨2, _⟩ => rfl
  have hs : broadcastTo S512x512 s broadcasts_S512x1_S512x512 (ix2 r c) = s (ix2 r (0 : Fin 1)) :=
    broadcastTo_apply _ _ _ _ fun a => by
      match a with
      | ⟨0, _⟩ => rfl
      | ⟨1, _⟩ => rfl
  have hv : broadcastTo S512x512 (shapeCast S1x512 v shapeCasts_S1x1x512_S1x512) broadcasts_S1x512_S512x512 (ix2 r c) = v (ix3 (0 : Fin 1) (0 : Fin 1) c) := by
    refine (broadcastTo_apply _ _ _ (ix2 (0 : Fin 1) c) fun a => ?_).trans ?_
    · match a with
      | ⟨0, _⟩ => rfl
      | ⟨1, _⟩ => rfl
    · refine (shapeCast_dropUnit_apply ![1, 512] v shapeCasts_S1x1x512_S1x512 (ix2 (0 : Fin 1) c)).trans (congrArg v (funext fun a => ?_))
      match a with
      | ⟨0, _⟩ => rfl
      | ⟨1, _⟩ => rfl
      | ⟨2, _⟩ => rfl
  exact congrArg₂ (fun a b : EReal => a * b) (congrArg₂ (fun a b : EReal => a * b) hm hs) hv

theorem yRow_at (a0 : Vec Ideal S98304x4096 .fp8e4m3) (a1 : Vec Ideal S98304x1 .f32) (a3 : Vec Ideal S8x4096x3072 .fp8e4m3) (a4 : Vec Ideal S8x1x3072 .f32)
    (g : ℕ → ℕ) (R : Fin 98304) (j : Fin 3072) (e : Fin 8) (he : own g R.val = e.val) :
    yRow (F := Ideal) a0 a1 a3 a4 g R.val j
    = ((∑ k : Fin 4096, (a0 (ix2 R k) : EReal) * (a3 (ix3 e k j) : EReal)) * (a1 (ix2 R (0 : Fin 1)) : EReal)) * (a4 (ix3 e (0 : Fin 1) j) : EReal) := by
  have hR : R.val < 98304 := R.isLt
  have hj : j.val < 3072 := j.isLt
  have hee : (⟨own g R.val % 8, Nat.mod_lt _ (by norm_num)⟩ : Fin 8) = e := Fin.ext (by have := e.isLt; show own g R.val % 8 = e.val; omega)
  have hrow : R.val / 512 % 192 * 512 + R.val % 512 = R.val := by omega
  have hcol : 512 * (j.val / 512) + 1 * (j.val % 512) = j.val := by omega
  unfold yRow prod outWhole
  rw [hee, ofTiles_at]
  refine (pay5_at _ _ _ _ _ _).trans ?_
  refine congrArg₂ (fun a b : EReal => a * b) (congrArg₂ (fun a b : EReal => a * b) (Finset.sum_congr rfl fun k _ => ?_) ?_) ?_
  · refine congrArg₂ (fun a b : EReal => a * b) (congrArg a0 (funext fun a => Fin.ext ?_)) (congrArg a3 (funext fun a => Fin.ext ?_))
    · match a with
      | ⟨0, _⟩ => exact hrow
      | ⟨1, _⟩ => rfl
    · match a with
      | ⟨0, _⟩ => rfl
      | ⟨1, _⟩ => show 0 + 1 * k.val = k.val; omega
      | ⟨2, _⟩ => exact hcol
  · refine congrArg a1 (funext fun a => Fin.ext ?_)
    match a with
    | ⟨0, _⟩ => exact hrow
    | ⟨1, _⟩ => rfl
  · refine congrArg a4 (funext fun a => Fin.ext ?_)
    match a with
    | ⟨0, _⟩ => rfl
    | ⟨1, _⟩ => rfl
    | ⟨2, _⟩ => exact hcol

end Cert.KernelIdeal.Val

end
-- ==== Proof.Blocks.lean ====
/-
The windows' blocks at a grid point, when the blocks of the schedule are read, when the result's block is written back and
at which points the body leaves the result alone.
-/
module
public import proofs.«01_k».proof.Proof.Merge

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WordCmp
open Cert.Sched (S E nb T tot st ex bk)

variable (m : (ℓ : Loc nD τ sig) → Buf (Elt F) ℓ)

theorem N_eq : grid0.N = 199 := by decide
theorem coord_eq (t : Fin grid0.N) : (grid0.coords t 0).val = t.val := by
  rw [Pipeline.Grid.coords_val t (0 : Fin grid0.rank) (S := 1) (B := 199) (by decide) rfl]
  have : t.val < 199 := t.isLt.trans_eq N_eq
  omega

/-- A window's block index, as the tables give it. -/
theorem index_eq (hO : Ok m) (w : Fin 5) (t : Fin (cfgM m hO).N) : ((cfgM m hO).win w).index t = ix0 (tbl m) w (grid0.coords t) := rfl

theorem ix_0 (hs : Split m) (t : Fin grid0.N) (a : Fin 2) : ix0 (tbl m) 0 (grid0.coords t) a = (![bk (gD m) t.val, 0] : Fin 2 → ℕ) a :=
  (congrFun (tr0_eq m hs (grid0.coords t)) a).trans (congrArg (fun n : ℕ => (![bk (gD m) n, 0] : Fin 2 → ℕ) a) (coord_eq t))
theorem index0 (hO : Ok m) (hs : Split m) (t : Fin (cfgM m hO).N) (a : Fin 2) : ((cfgM m hO).win 0).index t a = (![bk (gD m) t.val, 0] : Fin 2 → ℕ) a := by
  have h := congrFun (index_eq m hO 0 t) a
  have h2 := ix_0 m hs t a
  exact h.trans h2
theorem ix_1 (hs : Split m) (t : Fin grid0.N) (a : Fin 2) : ix0 (tbl m) 1 (grid0.coords t) a = (![bk (gD m) t.val, 0] : Fin 2 → ℕ) a :=
  (congrFun (tr1_eq m hs (grid0.coords t)) a).trans (congrArg (fun n : ℕ => (![bk (gD m) n, 0] : Fin 2 → ℕ) a) (coord_eq t))
theorem index1 (hO : Ok m) (hs : Split m) (t : Fin (cfgM m hO).N) (a : Fin 2) : ((cfgM m hO).win 1).index t a = (![bk (gD m) t.val, 0] : Fin 2 → ℕ) a := by
  have h := congrFun (index_eq m hO 1 t) a
  have h2 := ix_1 m hs t a
  exact h.trans h2
theorem ix_2 (hs : Split m) (t : Fin grid0.N) (a : Fin 3) : ix0 (tbl m) 2 (grid0.coords t) a = (![ex (gD m) t.val, 0, 0] : Fin 3 → ℕ) a :=
  (congrFun (tr2_eq m hs (grid0.coords t)) a).trans (congrArg (fun n : ℕ => (![ex (gD m) n, 0, 0] : Fin 3 → ℕ) a) (coord_eq t))
theorem index2 (hO : Ok m) (hs : Split m) (t : Fin (cfgM m hO).N) (a : Fin 3) : ((cfgM m hO).win 2).index t a = (![ex (gD m) t.val, 0, 0] : Fin 3 → ℕ) a := by
  have h := congrFun (index_eq m hO 2 t) a
  have h2 := ix_2 m hs t a
  exact h.trans h2
theorem ix_3 (hs : Split m) (t : Fin grid0.N) (a : Fin 3) : ix0 (tbl m) 3 (grid0.coords t) a = (![ex (gD m) t.val, 0, 0] : Fin 3 → ℕ) a :=
  (congrFun (tr3_eq m hs (grid0.coords t)) a).trans (congrArg (fun n : ℕ => (![ex (gD m) n, 0, 0] : Fin 3 → ℕ) a) (coord_eq t))
theorem index3 (hO : Ok m) (hs : Split m) (t : Fin (cfgM m hO).N) (a : Fin 3) : ((cfgM m hO).win 3).index t a = (![ex (gD m) t.val, 0, 0] : Fin 3 → ℕ) a := by
  have h := congrFun (index_eq m hO 3 t) a
  have h2 := ix_3 m hs t a
  exact h.trans h2
theorem ix_4 (hs : Split m) (t : Fin grid0.N) (a : Fin 2) : ix0 (tbl m) 4 (grid0.coords t) a = (![bk (gD m) t.val, 0] : Fin 2 → ℕ) a :=
  (congrFun (tr4_eq m hs (grid0.coords t)) a).trans (congrArg (fun n : ℕ => (![bk (gD m) n, 0] : Fin 2 → ℕ) a) (coord_eq t))
theorem index4 (hO : Ok m) (hs : Split m) (t : Fin (cfgM m hO).N) (a : Fin 2) : ((cfgM m hO).win 4).index t a = (![bk (gD m) t.val, 0] : Fin 2 → ℕ) a := by
  have h := congrFun (index_eq m hO 4 t) a
  have h2 := ix_4 m hs t a
  exact h.trans h2

/-- The arrays the rows are computed from: the row codes and scales, the weight codes and scales. -/
abbrev A0 (c : Dev nD) : Vec F S98304x4096 .fp8e4m3 := m ((c : Thread nD τ).loc main_arg0)
abbrev A1 (c : Dev nD) : Vec F S98304x1 .f32 := m ((c : Thread nD τ).loc main_arg1)
abbrev A3 (c : Dev nD) : Vec F S8x4096x3072 .fp8e4m3 := m ((c : Thread nD τ).loc main_arg3)
def A4 (c : Dev nD) : Vec F S8x1x3072 .f32 := V m c main_v49

/-- Where an element of window 0's block lies in its array. -/
theorem emb0 (hO : Ok m) (hs : Split m) (t : Fin (cfgM m hO).N) (p : S512x4096.Idx) (a : Fin 2) :
    ((((cfgM m hO).win 0).rect t).emb p a : ℕ) = (![bk (gD m) t.val, 0] : Fin 2 → ℕ) a * S512x4096.size a + (p a).val := by
  have h := Pipeline.Window.rect_emb_val ((cfgM m hO).win 0) t p a rfl
  have h2 := index0 m hO hs t a
  exact h.trans (congrArg (fun k : ℕ => k * S512x4096.size a + (p a).val) h2)
/-- Where an element of window 1's block lies in its array. -/
theorem emb1 (hO : Ok m) (hs : Split m) (t : Fin (cfgM m hO).N) (p : S512x1.Idx) (a : Fin 2) :
    ((((cfgM m hO).win 1).rect t).emb p a : ℕ) = (![bk (gD m) t.val, 0] : Fin 2 → ℕ) a * S512x1.size a + (p a).val := by
  have h := Pipeline.Window.rect_emb_val ((cfgM m hO).win 1) t p a rfl
  have h2 := index1 m hO hs t a
  exact h.trans (congrArg (fun k : ℕ => k * S512x1.size a + (p a).val) h2)
/-- Where an element of window 2's block lies in its array. -/
theorem emb2 (hO : Ok m) (hs : Split m) (t : Fin (cfgM m hO).N) (p : S1x4096x3072.Idx) (a : Fin 3) :
    ((((cfgM m hO).win 2).rect t).emb p a : ℕ) = (![ex (gD m) t.val, 0, 0] : Fin 3 → ℕ) a * S1x4096x3072.size a + (p a).val := by
  have h := Pipeline.Window.rect_emb_val ((cfgM m hO).win 2) t p a rfl
  have h2 := index2 m hO hs t a
  exact h.trans (congrArg (fun k : ℕ => k * S1x4096x3072.size a + (p a).val) h2)
/-- Where an element of window 3's block lies in its array. -/
theorem emb3 (hO : Ok m) (hs : Split m) (t : Fin (cfgM m hO).N) (p : S1x1x3072.Idx) (a : Fin 3) :
    ((((cfgM m hO).win 3).rect t).emb p a : ℕ) = (![ex (gD m) t.val, 0, 0] : Fin 3 → ℕ) a * S1x1x3072.size a + (p a).val := by
  have h := Pipeline.Window.rect_emb_val ((cfgM m hO).win 3) t p a rfl
  have h2 := index3 m hO hs t a
  exact h.trans (congrArg (fun k : ℕ => k * S1x1x3072.size a + (p a).val) h2)
/-- Where an element of window 4's block lies in its array. -/
theorem emb4 (hO : Ok m) (hs : Split m) (t : Fin (cfgM m hO).N) (p : S512x3072.Idx) (a : Fin 2) :
    ((((cfgM m hO).win 4).rect t).emb p a : ℕ) = (![bk (gD m) t.val, 0] : Fin 2 → ℕ) a * S512x3072.size a + (p a).val := by
  have h := Pipeline.Window.rect_emb_val ((cfgM m hO).win 4) t p a rfl
  have h2 := index4 m hO hs t a
  exact h.trans (congrArg (fun k : ℕ => k * S512x3072.size a + (p a).val) h2)
theorem read0 (a : (pcfg0 (F := F)).Adm) (c : Dev nD) (X : (b : Ref sig .tc) → Buf (Elt F) ((c : Thread nD τ).loc b)) (t : Fin grid0.N) (p : S512x4096.Idx) (q : S98304x4096.Idx)
    (h : ∀ k : Fin 2, ((((cfg0 a).win 0).rect t).emb p k : ℕ) = (q k).val) :
    ((((cfg0 a).win 0).blk t).view.read (Elt F) (X (Pipeline.arrRef spec0 0)) : Vec F S512x4096 .fp8e4m3) p = (X main_arg0 : Vec F S98304x4096 .fp8e4m3) q :=
  congrArg (X main_arg0 : Vec F S98304x4096 .fp8e4m3) (funext fun k => Fin.ext (h k))
theorem iblk0_ap (hO : Ok m) (c : Dev nD) (t : Fin (cfgM m hO).N) (p : S512x4096.Idx) (q : S98304x4096.Idx)
    (h : ∀ a : Fin 2, ((((cfgM m hO).win 0).rect t).emb p a : ℕ) = (q a).val) :
    (iblk m hO c 0 t : Vec F S512x4096 .fp8e4m3) p = A0 m c q := by
  have h2 := read0 (adm m hO) c (V m c) t p q h
  have h3 := congrFun (V_main_arg0 m c) q
  exact h2.trans h3
theorem iblk0_eq (hO : Ok m) (hs : Split m) (c : Dev nD) (t : Fin (cfgM m hO).N) :
    (iblk m hO c 0 t : Vec F S512x4096 .fp8e4m3) = xB (A0 m c) ⟨bk (gD m) t.val, Cert.Sched.bk_lt hs _⟩ := by
  refine funext fun (p : S512x4096.Idx) => (iblk0_ap m hO c t p _ fun a => (emb0 m hO hs t p a).trans ?_)
  match a with
  | ⟨0, _⟩ => rfl
  | ⟨1, _⟩ => show 0 * 4096 + (p 1).val = (p 1).val; omega
theorem read1 (a : (pcfg0 (F := F)).Adm) (c : Dev nD) (X : (b : Ref sig .tc) → Buf (Elt F) ((c : Thread nD τ).loc b)) (t : Fin grid0.N) (p : S512x1.Idx) (q : S98304x1.Idx)
    (h : ∀ k : Fin 2, ((((cfg0 a).win 1).rect t).emb p k : ℕ) = (q k).val) :
    ((((cfg0 a).win 1).blk t).view.read (Elt F) (X (Pipeline.arrRef spec0 1)) : Vec F S512x1 .f32) p = (X main_arg1 : Vec F S98304x1 .f32) q :=
  congrArg (X main_arg1 : Vec F S98304x1 .f32) (funext fun k => Fin.ext (h k))
theorem iblk1_ap (hO : Ok m) (c : Dev nD) (t : Fin (cfgM m hO).N) (p : S512x1.Idx) (q : S98304x1.Idx)
    (h : ∀ a : Fin 2, ((((cfgM m hO).win 1).rect t).emb p a : ℕ) = (q a).val) :
    (iblk m hO c 1 t : Vec F S512x1 .f32) p = A1 m c q := by
  have h2 := read1 (adm m hO) c (V m c) t p q h
  have h3 := congrFun (V_main_arg1 m c) q
  exact h2.trans h3
theorem iblk1_eq (hO : Ok m) (hs : Split m) (c : Dev nD) (t : Fin (cfgM m hO).N) :
    (iblk m hO c 1 t : Vec F S512x1 .f32) = sB (A1 m c) ⟨bk (gD m) t.val, Cert.Sched.bk_lt hs _⟩ := by
  refine funext fun (p : S512x1.Idx) => (iblk1_ap m hO c t p _ fun a => (emb1 m hO hs t p a).trans ?_)
  match a with
  | ⟨0, _⟩ => rfl
  | ⟨1, _⟩ => show 0 * 1 + (p 1).val = (p 1).val; omega
theorem read2 (a : (pcfg0 (F := F)).Adm) (c : Dev nD) (X : (b : Ref sig .tc) → Buf (Elt F) ((c : Thread nD τ).loc b)) (t : Fin grid0.N) (p : S1x4096x3072.Idx) (q : S8x4096x3072.Idx)
    (h : ∀ k : Fin 3, ((((cfg0 a).win 2).rect t).emb p k : ℕ) = (q k).val) :
    ((((cfg0 a).win 2).blk t).view.read (Elt F) (X (Pipeline.arrRef spec0 2)) : Vec F S1x4096x3072 .fp8e4m3) p = (X main_arg3 : Vec F S8x4096x3072 .fp8e4m3) q :=
  congrArg (X main_arg3 : Vec F S8x4096x3072 .fp8e4m3) (funext fun k => Fin.ext (h k))
theorem iblk2_ap (hO : Ok m) (c : Dev nD) (t : Fin (cfgM m hO).N) (p : S1x4096x3072.Idx) (q : S8x4096x3072.Idx)
    (h : ∀ a : Fin 3, ((((cfgM m hO).win 2).rect t).emb p a : ℕ) = (q a).val) :
    (iblk m hO c 2 t : Vec F S1x4096x3072 .fp8e4m3) p = A3 m c q := by
  have h2 := read2 (adm m hO) c (V m c) t p q h
  have h3 := congrFun (V_main_arg3 m c) q
  exact h2.trans h3
theorem iblk2_eq (hO : Ok m) (hs : Split m) (c : Dev nD) (t : Fin (cfgM m hO).N) :
    (iblk m hO c 2 t : Vec F S1x4096x3072 .fp8e4m3) = wB (A3 m c) ⟨ex (gD m) t.val, Cert.Sched.ex_lt hs _⟩ := by
  refine funext fun (p : S1x4096x3072.Idx) => (iblk2_ap m hO c t p _ fun a => (emb2 m hO hs t p a).trans ?_)
  match a with
  | ⟨0, _⟩ => show ex (gD m) t.val * 1 + (p 0).val = ex (gD m) t.val; have : (p 0).val < 1 := (p 0).isLt; omega
  | ⟨1, _⟩ => show 0 * 4096 + (p 1).val = (p 1).val; omega
  | ⟨2, _⟩ => show 0 * 3072 + (p 2).val = (p 2).val; omega
theorem read3 (a : (pcfg0 (F := F)).Adm) (c : Dev nD) (X : (b : Ref sig .tc) → Buf (Elt F) ((c : Thread nD τ).loc b)) (t : Fin grid0.N) (p : S1x1x3072.Idx) (q : S8x1x3072.Idx)
    (h : ∀ k : Fin 3, ((((cfg0 a).win 3).rect t).emb p k : ℕ) = (q k).val) :
    ((((cfg0 a).win 3).blk t).view.read (Elt F) (X (Pipeline.arrRef spec0 3)) : Vec F S1x1x3072 .f32) p = (X main_v49 : Vec F S8x1x3072 .f32) q :=
  congrArg (X main_v49 : Vec F S8x1x3072 .f32) (funext fun k => Fin.ext (h k))
theorem iblk3_ap (hO : Ok m) (c : Dev nD) (t : Fin (cfgM m hO).N) (p : S1x1x3072.Idx) (q : S8x1x3072.Idx)
    (h : ∀ a : Fin 3, ((((cfgM m hO).win 3).rect t).emb p a : ℕ) = (q a).val) :
    (iblk m hO c 3 t : Vec F S1x1x3072 .f32) p = A4 m c q := by
  have h2 := read3 (adm m hO) c (V m c) t p q h
  exact h2
theorem iblk3_eq (hO : Ok m) (hs : Split m) (c : Dev nD) (t : Fin (cfgM m hO).N) :
    (iblk m hO c 3 t : Vec F S1x1x3072 .f32) = vB (A4 m c) ⟨ex (gD m) t.val, Cert.Sched.ex_lt hs _⟩ := by
  refine funext fun (p : S1x1x3072.Idx) => (iblk3_ap m hO c t p _ fun a => (emb3 m hO hs t p a).trans ?_)
  match a with
  | ⟨0, _⟩ => show ex (gD m) t.val * 1 + (p 0).val = ex (gD m) t.val; have : (p 0).val < 1 := (p 0).isLt; omega
  | ⟨1, _⟩ => show 0 * 1 + (p 1).val = (p 1).val; omega
  | ⟨2, _⟩ => show 0 * 3072 + (p 2).val = (p 2).val; omega

/-- The result's block is written back at the last point and wherever the next point's block is another. -/
theorem flush_iff (hO : Ok m) (hs : Split m) (t : Fin (cfgM m hO).N) :
    ((cfgM m hO).win 4).flush t = true ↔ t.val + 1 = 199 ∨ (t.val + 1 < 199 ∧ bk (gD m) (t.val + 1) ≠ bk (gD m) t.val) := by
  rw [Pipeline.Window.flush_out _ rfl]
  have hN : (cfgM m hO).grid.N = 199 := N_eq
  refine or_congr ⟨fun h => h.trans hN, fun h => h.trans hN.symm⟩ ⟨?_, ?_⟩
  · rintro ⟨h, hne⟩
    refine ⟨h.trans_eq hN, fun he => hne (funext fun a => ?_)⟩
    have h1 := index4 m hO hs ⟨t.val + 1, h⟩ a
    have h2 := index4 m hO hs t a
    exact h1.trans ((congrArg (fun n : ℕ => (![n, 0] : Fin 2 → ℕ) a) he).trans h2.symm)
  · rintro ⟨h, hne⟩
    refine ⟨h.trans_eq hN.symm, fun he => hne ?_⟩
    have h1 := index4 m hO hs ⟨t.val + 1, h.trans_eq hN.symm⟩ 0
    have h2 := index4 m hO hs t 0
    exact h1.symm.trans ((congrFun he (0 : Fin 2)).trans h2)

theorem atD1_eq (hs : Split m) (i : grid0.Coords) : ((tbl m).atD 1 (k0_off1 i) : BitVec 32) = BitVec.ofNat 32 (bk (gD m) (i 0).val) := by
  unfold Pipeline.Prefetch.Contents.atD
  have h : ∀ a, k0_off1 i a + 1 ≤ S199.size a := by intro a; rw [Subsingleton.elim a 0]; exact k0_off1_inb i 0
  exact (dif_pos h).trans (tbl1_at m hs _ _ (off1_val i))
theorem atD0_eq (hs : Split m) (i : grid0.Coords) : ((tbl m).atD 0 (k0_off1 i) : BitVec 32) = BitVec.ofNat 32 (ex (gD m) (i 0).val) := by
  unfold Pipeline.Prefetch.Contents.atD
  have h : ∀ a, k0_off1 i a + 1 ≤ S199.size a := by intro a; rw [Subsingleton.elim a 0]; exact k0_off1_inb i 0
  exact (dif_pos h).trans (tbl0_at m hs _ _ (off1_val i))
theorem atD2_eq (hs : Split m) (i : grid0.Coords) : ((tbl m).atD 2 (k0_off3 i) : BitVec 32) = BitVec.ofNat 32 (if (i 0).val < tot (gD m) then 1 else 0) := by
  unfold Pipeline.Prefetch.Contents.atD
  have h : ∀ a, k0_off3 i a + 1 ≤ S199.size a := by intro a; rw [Subsingleton.elim a 0]; exact k0_off3_inb i 0
  exact (dif_pos h).trans (tbl2_at m hs _ _ (off1_val i))
theorem atD2_eq' (hs : Split m) (i : grid0.Coords) : ((tbl m).atD 2 (k0_off4 i) : BitVec 32) = BitVec.ofNat 32 (if (i 0).val < tot (gD m) then 1 else 0) :=
  atD2_eq m hs i
theorem atD4_eq (hs : Split m) (e : ℕ) (he : e < 8) : ((tbl m).atD 4 (k0_off2 (BitVec.ofNat 32 e)) : BitVec 32) = BitVec.ofNat 32 (S (gD m) e) := by
  unfold Pipeline.Prefetch.Contents.atD
  have h : ∀ a, k0_off2 (BitVec.ofNat 32 e) a + 1 ≤ S8.size a := by intro a; rw [Subsingleton.elim a 0]; exact chk_of he rfl 0
  exact (dif_pos h).trans (tbl4_at m hs _ _ (off2_val he))
theorem atD5_eq (e : ℕ) (he : e < 8) : ((tbl m).atD 5 (k0_off2 (BitVec.ofNat 32 e)) : BitVec 32) = BitVec.ofNat 32 (E (gD m) e) := by
  unfold Pipeline.Prefetch.Contents.atD
  have h : ∀ a, k0_off2 (BitVec.ofNat 32 e) a + 1 ≤ S8.size a := by intro a; rw [Subsingleton.elim a 0]; exact chk_of he rfl 0
  exact (dif_pos h).trans (tbl5_at m _ _ (off2_val he))

theorem idle_bits (p q : Bool) : (!(BitVec.ofBool (p && q) == 1#1) && !(BitVec.ofBool (p && !q) == 1#1)) = !p := by
  cases p <;> cases q <;> rfl

/-- The idle condition of the result's window, spelled out. -/
def idleW (pf : pre0.Contents (Elt F)) (i : grid0.Coords) : Bool :=
  (!(k0_cond1 (pf.atD 1 (k0_off1 i) : BitVec 32) (pf.atD 4 (k0_off2 (pf.atD 0 (k0_off1 i) : BitVec 32)) : BitVec 32)
          (pf.atD 5 (k0_off2 (pf.atD 0 (k0_off1 i) : BitVec 32)) : BitVec 32) (pf.atD 2 (k0_off3 i) : BitVec 32) == 1#1)
        && !(k0_cond2 (pf.atD 1 (k0_off1 i) : BitVec 32) (pf.atD 4 (k0_off2 (pf.atD 0 (k0_off1 i) : BitVec 32)) : BitVec 32)
          (pf.atD 5 (k0_off2 (pf.atD 0 (k0_off1 i) : BitVec 32)) : BitVec 32) (pf.atD 2 (k0_off4 i) : BitVec 32) == 1#1))
theorem idle0_eq (pf : pre0.Contents (Elt F)) (i : grid0.Coords) : idle0 pf 4 i = idleW pf i := rfl
theorem idle_all (a : (pcfg0 (F := F)).Adm) (i : grid0.Coords) : (cfg0 a).idle 4 i = idleW a.1 i := rfl
theorem idle_at (hO : Ok m) (t : Fin (cfgM m hO).N) : (cfgM m hO).idle 4 ((cfgM m hO).grid.coords t) = idleW (tbl m) (grid0.coords t) :=
  idle_all (adm m hO) (grid0.coords t)

/-- The body leaves the result alone exactly at the points past the schedule's end. -/
theorem idle_eq (hO : Ok m) (hs : Split m) (t : Fin (cfgM m hO).N) :
    (cfgM m hO).idle 4 ((cfgM m hO).grid.coords t) = !decide (t.val < tot (gD m)) := by
  have hx := Cert.Sched.ex_lt hs (grid0.coords t 0).val
  refine (idle_at m hO t).trans ?_
  rw [idleW, atD0_eq m hs, atD1_eq m hs, atD2_eq m hs, atD2_eq' m hs, atD4_eq m hs _ hx, atD5_eq m _ hx,
    cond1_eq _ (S_le' m hs _) (Cert.Sched.bk_lt hs _) (E_le' m hs _), cond2_eq _ (S_le' m hs _) (Cert.Sched.bk_lt hs _) (E_le' m hs _), idle_bits, coord_eq]

end Cert.KernelIdeal.Val
-- ==== Proof.Loop.lean ====
/-
The grid's loop: what every window's buffer holds before and after each point, and the body's triple at every point.
-/
module
public import proofs.«01_k».proof.Proof.Blocks
public import proofs.«01_k».proof.Proof.Gen.KernelIdeal.Launch
public import Idealize.ShloMosaic.Lib.Pipeline.TableIdle

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WordCmp
open Cert.Sched (S E nb T tot st ex bk)

variable (m : (ℓ : Loc nD τ sig) → Buf (Elt F) ℓ)

/-! ## The loop's data -/

/-- The block of rows the result's buffer holds after step `s`. -/
abbrev heldM (c : Dev nD) (s : ℕ) : Vec F S512x3072 .bf16 := held (A0 m c) (A1 m c) (A3 m c) (A4 m c) (gD m) s

/-- What each window's buffer holds after each point: an input its block, the result the rows finished so far. -/
def dat (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => heldM m c t.val
  Φ _ := iprop(Pipeline.ΦA spec0 c ∗ Pipeline.ΦT pre0 (tbl m) c)
  q _ := fullShare
  owed _ := 0

theorem dat_A (hO : Ok m) (c : Dev nD) (w : Fin (cfgM m hO).W) : (dat m hO c).A w = V m c (Pipeline.arrRef spec0 w) := by
  dsimp only [dat]
theorem after0 (hO : Ok m) (c : Dev nD) (t : Fin (cfgM m hO).N) : (dat m hO c).after 0 t = iblk m hO c 0 t := by dsimp only [dat]; rfl
theorem after1 (hO : Ok m) (c : Dev nD) (t : Fin (cfgM m hO).N) : (dat m hO c).after 1 t = iblk m hO c 1 t := by dsimp only [dat]; rfl
theorem after2 (hO : Ok m) (c : Dev nD) (t : Fin (cfgM m hO).N) : (dat m hO c).after 2 t = iblk m hO c 2 t := by dsimp only [dat]; rfl
theorem after3 (hO : Ok m) (c : Dev nD) (t : Fin (cfgM m hO).N) : (dat m hO c).after 3 t = iblk m hO c 3 t := by dsimp only [dat]; rfl
theorem after4 (hO : Ok m) (c : Dev nD) (t : Fin (cfgM m hO).N) : (dat m hO c).after 4 t = heldM m c t.val := by dsimp only [dat]; rfl

theorem before0 (hO : Ok m) (c : Dev nD) (t : Fin (cfgM m hO).N) (d) : (dat m hO c).before 0 t d = iblk m hO c 0 t :=
  before0_0_of m hO (dat m hO c) (dat_A m hO c 0) (after0 m hO c) t d
theorem before1 (hO : Ok m) (c : Dev nD) (t : Fin (cfgM m hO).N) (d) : (dat m hO c).before 1 t d = iblk m hO c 1 t :=
  before0_1_of m hO (dat m hO c) (dat_A m hO c 1) (after1 m hO c) t d
theorem before2 (hO : Ok m) (c : Dev nD) (t : Fin (cfgM m hO).N) (d) : (dat m hO c).before 2 t d = iblk m hO c 2 t :=
  before0_2_of m hO (dat m hO c) (dat_A m hO c 2) (after2 m hO c) t d
theorem before3 (hO : Ok m) (c : Dev nD) (t : Fin (cfgM m hO).N) (d) : (dat m hO c).before 3 t d = iblk m hO c 3 t :=
  before0_3_of m hO (dat m hO c) (dat_A m hO c 3) (after3 m hO c) t d

/-! ## What the result's buffer holds before a point -/

theorem flush_false (hO : Ok m) (hs : Split m) (n : ℕ) (hn : n < (cfgM m hO).N) (h1 : n + 1 < 199) (he : bk (gD m) (n + 1) = bk (gD m) n) :
    ((cfgM m hO).win 4).flush ⟨n, hn⟩ = false := by
  rw [← Bool.not_eq_true]
  intro hf
  rcases (flush_iff m hO hs ⟨n, hn⟩).mp hf with h | ⟨_, h⟩
  · exact absurd h (Nat.ne_of_lt h1)
  · exact h he

theorem idle_true (hO : Ok m) (hs : Split m) (t : Fin (cfgM m hO).N) (h : tot (gD m) ≤ t.val) :
    (cfgM m hO).idle 4 ((cfgM m hO).grid.coords t) = true := by
  rw [idle_eq m hO hs, decide_eq_false (by omega)]; rfl
theorem idle_false (hO : Ok m) (hs : Split m) (t : Fin (cfgM m hO).N) (h : t.val < tot (gD m)) :
    (cfgM m hO).idle 4 ((cfgM m hO).grid.coords t) = false := by
  rw [idle_eq m hO hs, decide_eq_true h]; rfl
theorem tot_of_idle (hO : Ok m) (hs : Split m) (t : Fin (cfgM m hO).N) (h : (cfgM m hO).idle 4 ((cfgM m hO).grid.coords t) = true) :
    tot (gD m) ≤ t.val := by
  by_contra hn
  rw [idle_false m hO hs t (by omega)] at h
  exact Bool.false_ne_true h

theorem fresh_step {cfg : Pipeline.Cfg sig Λ₀} (w : Fin cfg.W) (n : ℕ) (hN : n < cfg.N) (hf : (cfg.win w).flush ⟨n, hN⟩ = false)
    (h : cfg.idle w (cfg.grid.coords ⟨n, hN⟩) = false ∨ cfg.fresh w n = false) : cfg.fresh w (n + 1) = false := by
  rw [Pipeline.Cfg.fresh_succ cfg w n hN, hf]
  rcases h with h | h <;> rw [h]
  · rfl
  · rw [Bool.and_false]; rfl

theorem NM_eq (hO : Ok m) : (cfgM m hO).N = 199 := N_eq

/-- A point whose block is the previous point's finds the buffer as the body left it. -/
theorem fresh_false (hO : Ok m) (hs : Split m) (n : ℕ) (h1 : n + 1 < 199) (he : bk (gD m) (n + 1) = bk (gD m) n) : (cfgM m hO).fresh 4 (n + 1) = false := by
  induction n with
  | zero =>
    have hN : 0 < (cfgM m hO).N := lt_of_lt_of_eq (by norm_num) (NM_eq m hO).symm
    exact fresh_step 4 0 hN (flush_false m hO hs 0 hN h1 he) (.inl (idle_false m hO hs ⟨0, hN⟩ (Cert.Sched.tot_pos hs)))
  | succ n ih =>
    have hN : n + 1 < (cfgM m hO).N := lt_of_lt_of_eq (by omega) (NM_eq m hO).symm
    refine fresh_step 4 (n + 1) hN (flush_false m hO hs (n + 1) hN h1 he) ?_
    by_cases ht : n + 1 < tot (gD m)
    · exact .inl (idle_false m hO hs ⟨n + 1, hN⟩ ht)
    · exact .inr (ih (by omega) (Cert.Sched.past hs n (by omega)).2)

theorem held_past (c : Dev nD) (hs : Split m) (n : ℕ) (h : tot (gD m) ≤ n + 1) : heldM m c (n + 1) = heldM m c n :=
  held_congr _ _ _ _ (Cert.Sched.past hs n h).1 (Cert.Sched.past hs n h).2

theorem before4 (hO : Ok m) (hs : Split m) (c : Dev nD) (n : ℕ) (hn : n + 1 < (cfgM m hO).N) (he : bk (gD m) (n + 1) = bk (gD m) n) (d) :
    (dat m hO c).before 4 ⟨n + 1, hn⟩ d = heldM m c n := by
  have hN : n + 1 < 199 := lt_of_lt_of_eq hn (NM_eq m hO)
  have h := (dat m hO c).before_out_traj 4 rfl (fun _ _ => rfl)
    (fun t ht hi hf => by
      obtain ⟨t, htl⟩ := t
      obtain ⟨u, rfl⟩ : ∃ u, t = u + 1 := Nat.exists_eq_succ_of_ne_zero ht
      rw [after4, after4]
      exact held_past m c hs u (tot_of_idle m hO hs _ hi)) (n + 1) ⟨n + 1, hn⟩ rfl d
  rw [fresh_false m hO hs n hN he, if_neg Bool.false_ne_true] at h
  exact h.trans (after4 m hO c ⟨n, Nat.lt_of_succ_lt hn⟩)

end Cert.KernelIdeal.Val
-- ==== Proof.Obligation.lean ====
/-
The body's triple at every grid point.
-/
module
public import proofs.«01_k».proof.Proof.Loop
public import Idealize.ShloMosaic.Lib.Pipeline.FrameBody

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WordCmp
open Cert.Sched (S E nb T tot st ex bk)

variable (m : (ℓ : Loc nD τ sig) → Buf (Elt F) ℓ)

/-! ## What the body leaves in the result's buffer -/

theorem whole_eq (hO : Ok m) (hs : Split m) (c : Dev nD) (t : Fin (cfgM m hO).N) (hw : Whole (gD m) t.val) :
    outWhole (iblk m hO c 0 t) (iblk m hO c 1 t) (iblk m hO c 2 t) (iblk m hO c 3 t) = heldM m c t.val := by
  refine Eq.trans ?_ (whole_held (A0 m c) (A1 m c) (A3 m c) (A4 m c) hs t.val hw)
  unfold prod
  exact congr (congr (congr (congrArg outWhole (iblk0_eq m hO hs c t)) (iblk1_eq m hO hs c t)) (iblk2_eq m hO hs c t)) (iblk3_eq m hO hs c t)

theorem coordM (hO : Ok m) (t : Fin (cfgM m hO).N) : (grid0.coords t 0).val = t.val := coord_eq t

/-- The word that says whether a step is the first of its block. -/
theorem fst_cases (hO : Ok m) (hs : Split m) (c : Dev nD) (t : Fin (cfgM m hO).N) (ht : t.val < tot (gD m)) :
    (wFst c (grid0.coords t) (tbl m 3) = 1#32 ∧ S (gD m) (ex (gD m) t.val) ≤ bk (gD m) t.val * 512)
    ∨ (wFst c (grid0.coords t) (tbl m 3) = 0#32 ∧ ∃ u, t.val = u + 1 ∧ bk (gD m) (u + 1) = bk (gD m) u) := by
  have hc := coordM m hO t
  rcases Nat.eq_zero_or_pos t.val with h0 | hp
  · exact .inl ⟨wFst_zero m hs c _ (hc.trans h0), Cert.Sched.enter hs _ (.inl h0)⟩
  · obtain ⟨u, hu⟩ : ∃ u, t.val = u + 1 := Nat.exists_eq_succ_of_ne_zero hp.ne'
    have hf := wFst_succ m hs c (grid0.coords t) u (hc.trans hu)
    by_cases he : bk (gD m) (u + 1) = bk (gD m) u
    · exact .inr ⟨hf.trans (by rw [if_neg (not_not.mpr he)]), u, hu, he⟩
    · exact .inl ⟨hf.trans (by rw [if_pos he]), Cert.Sched.enter hs _ (.inr ⟨u, hu, by omega, he⟩)⟩

theorem before_rows (hO : Ok m) (hs : Split m) (c : Dev nD) (t : Fin (cfgM m hO).N) (ht : t.val < tot (gD m)) (u : ℕ) (hu : t.val = u + 1)
    (he : bk (gD m) (u + 1) = bk (gD m) u) (d) (r : Fin 512) (j : Fin 3072) :
    ((dat m hO c).before 4 t d : Vec F S512x3072 .bf16) (ix2 r j)
      = if bk (gD m) t.val * 512 + r.val < S (gD m) (ex (gD m) t.val)
        then yRow (A0 m c) (A1 m c) (A3 m c) (A4 m c) (gD m) (bk (gD m) t.val * 512 + r.val) j else zero16 := by
  obtain ⟨t, htl⟩ := t
  have hu' : t = u + 1 := hu
  subst hu'
  have h := before4 m hO hs c u htl he d
  refine (congrFun h (ix2 r j)).trans ?_
  have hst := Cert.Sched.stay hs u ht he
  show (if bk (gD m) u * 512 + r.val < E (gD m) (ex (gD m) u) then yRow (A0 m c) (A1 m c) (A3 m c) (A4 m c) (gD m) (bk (gD m) u * 512 + r.val) j else zero16)
    = if bk (gD m) (u + 1) * 512 + r.val < S (gD m) (ex (gD m) (u + 1)) then yRow (A0 m c) (A1 m c) (A3 m c) (A4 m c) (gD m) (bk (gD m) (u + 1) * 512 + r.val) j else zero16
  rw [hst, he]

theorem part_words (hs : Split m) (c : Dev nD) (i : grid0.Coords) (fst : BitVec 32) (x0 : Vec F S512x4096 .fp8e4m3) (x1 : Vec F S512x1 .f32)
    (x2 : Vec F S1x4096x3072 .fp8e4m3) (x3 : Vec F S1x1x3072 .f32) (x4 : Vec F S512x3072 .bf16) :
    outPart (Scalar.subi (wLo c _ (chk m hs c i) (tbl m 4)) (Scalar.muli (wBlk c i (tbl m 1)) 512#32))
      (Scalar.subi (wHi c _ (chk m hs c i) (tbl m 5)) (Scalar.muli (wBlk c i (tbl m 1)) 512#32)) fst x0 x1 x2 x3 x4
    = outPart (Scalar.subi (BitVec.ofNat 32 (S (gD m) (ex (gD m) (i 0).val))) (Scalar.muli (BitVec.ofNat 32 (bk (gD m) (i 0).val)) 512#32))
      (Scalar.subi (BitVec.ofNat 32 (E (gD m) (ex (gD m) (i 0).val))) (Scalar.muli (BitVec.ofNat 32 (bk (gD m) (i 0).val)) 512#32)) fst x0 x1 x2 x3 x4 := by
  have hx := Cert.Sched.ex_lt hs (i 0).val
  rw [wLo_eq m hs c _ (chk m hs c i) _ hx (wExp_eq m hs c i), wHi_eq m c _ (chk m hs c i) _ hx (wExp_eq m hs c i), wBlk_eq m hs c i]

theorem part_eq (hO : Ok m) (hs : Split m) (c : Dev nD) (t : Fin (cfgM m hO).N) (ht : t.val < tot (gD m)) (d) :
    outPart (Scalar.subi (wLo c _ (chk m hs c (grid0.coords t)) (tbl m 4)) (Scalar.muli (wBlk c (grid0.coords t) (tbl m 1)) 512#32))
      (Scalar.subi (wHi c _ (chk m hs c (grid0.coords t)) (tbl m 5)) (Scalar.muli (wBlk c (grid0.coords t) (tbl m 1)) 512#32))
      (wFst c (grid0.coords t) (tbl m 3)) (iblk m hO c 0 t) (iblk m hO c 1 t) (iblk m hO c 2 t) (iblk m hO c 3 t) ((dat m hO c).before 4 t d)
    = heldM m c t.val := by
  refine (part_words m hs c _ _ _ _ _ _ _).trans ?_
  have hc := coordM m hO t
  rw [hc]
  refine Eq.trans ?_ (part_held (A0 m c) (A1 m c) (A3 m c) (A4 m c) hs t.val (wFst c (grid0.coords t) (tbl m 3)) ((dat m hO c).before 4 t d) ?_ ?_)
  · exact congrFun (congr (congr (congr (congrArg (outPart _ _ _) (iblk0_eq m hO hs c t)) (iblk1_eq m hO hs c t)) (iblk2_eq m hO hs c t)) (iblk3_eq m hO hs c t)) _
  · intro hne
    rcases fst_cases m hO hs c t ht with ⟨_, h⟩ | ⟨h, _⟩
    · exact h
    · exact absurd h hne
  · intro h0 r j
    rcases fst_cases m hO hs c t ht with ⟨h, _⟩ | ⟨_, u, hu, he⟩
    · exact absurd (h.symm.trans h0) (by decide)
    · exact before_rows m hO hs c t ht u hu he d r j

/-! ## The two conditions at a point -/

section
variable (hO : Ok m) (hs : Split m) (c : Dev nD) (t : Fin (cfgM m hO).N)

theorem c1_at : k0_cond1 (wBlk c (grid0.coords t) (tbl m 1)) (wLo c _ (chk m hs c (grid0.coords t)) (tbl m 4)) (wHi c _ (chk m hs c (grid0.coords t)) (tbl m 5)) (wVal1 c (grid0.coords t) (tbl m 2))
    = BitVec.ofBool (decide (t.val < tot (gD m)) && decide (Whole (gD m) t.val)) := by
  rw [cond1_at m hs c _ (chk m hs c (grid0.coords t)), coordM m hO t]
theorem c2_at : k0_cond2 (wBlk c (grid0.coords t) (tbl m 1)) (wLo c _ (chk m hs c (grid0.coords t)) (tbl m 4)) (wHi c _ (chk m hs c (grid0.coords t)) (tbl m 5)) (wVal2 c (grid0.coords t) (tbl m 2))
    = BitVec.ofBool (decide (t.val < tot (gD m)) && !decide (Whole (gD m) t.val)) := by
  rw [cond2_at m hs c _ (chk m hs c (grid0.coords t)), coordM m hO t]

/-! ## The body at a point -/

include hs in
/-- The result's buffer as the loop takes it back: at the schedule's steps the rows finished, past them as found. -/
theorem live_post (ht : t.val < tot (gD m)) :
    (owns (c : Thread nD τ) (ms0_4 m hO t) fullShare (heldM m c t.val) : sProp 𝕄) ⊢ (dat m hO c).leavesExact 4 t := by
  unfold Dat.leavesExact
  rw [idle_false m hO hs t ht, after4]
  exact .rfl
include hs in
theorem idle_post (ht : tot (gD m) ≤ t.val) (d) :
    (owns (c : Thread nD τ) (ms0_4 m hO t) fullShare ((dat m hO c).before 4 t d) : sProp 𝕄) ⊢ (dat m hO c).leavesExact 4 t := by
  unfold Dat.leavesExact
  rw [idle_true m hO hs t ht]
  have hp : 0 < t.val := lt_of_lt_of_le (Cert.Sched.tot_pos hs) ht
  cases hf : ((cfgM m hO).win 4).flush t
  · dsimp only
    iintro H
    iexists d
    iexact H
  · obtain ⟨t, htl⟩ := t
    obtain ⟨u, rfl⟩ : ∃ u, t = u + 1 := Nat.exists_eq_succ_of_ne_zero hp.ne'
    dsimp only
    rw [before4 m hO hs c u htl (Cert.Sched.past hs u ht).2, after4, ← held_past m c hs u ht]
    exact .rfl

/-- What the body is handed at a point, -/
def bodyPre : sProp 𝕄 :=
  iprop((dat m hO c).Φ t.castSucc ∗ (dat m hO c).owesAt () t.castSucc
    ∗ (∃ d, owns (c : Thread nD τ) (ms0_0 m hO t) fullShare ((dat m hO c).before 0 t d))
    ∗ (∃ d, owns (c : Thread nD τ) (ms0_1 m hO t) fullShare ((dat m hO c).before 1 t d))
    ∗ (∃ d, owns (c : Thread nD τ) (ms0_2 m hO t) fullShare ((dat m hO c).before 2 t d))
    ∗ (∃ d, owns (c : Thread nD τ) (ms0_3 m hO t) fullShare ((dat m hO c).before 3 t d))
    ∗ (∃ d, owns (c : Thread nD τ) (ms0_4 m hO t) fullShare ((dat m hO c).before 4 t d)))
/-- and what it hands back. -/
def bodyPost : sProp 𝕄 :=
  iprop((dat m hO c).Φ t.succ ∗ (dat m hO c).owesAt () t.succ
    ∗ owns (c : Thread nD τ) (ms0_0 m hO t) fullShare ((dat m hO c).after 0 t)
    ∗ owns (c : Thread nD τ) (ms0_1 m hO t) fullShare ((dat m hO c).after 1 t)
    ∗ owns (c : Thread nD τ) (ms0_2 m hO t) fullShare ((dat m hO c).after 2 t)
    ∗ owns (c : Thread nD τ) (ms0_3 m hO t) fullShare ((dat m hO c).after 3 t)
    ∗ (dat m hO c).leavesExact 4 t)

/-- The body's call at a point. -/
abbrev bodyCall : Prog (TpuEff nD τ sig (Elt F) Λ₀ .tc) PUnit :=
  cc0_grouped_fp8_matmul (grid0.coords t) tbM0_0 htbM0_0 tbM0_1 htbM0_1 tbM0_2 htbM0_2 tbM0_3 htbM0_3 tbM0_4 htbM0_4 tbM0_5 htbM0_5
    (ms0_0 m hO t) (hs0_0 m hO t) (ms0_1 m hO t) (hs0_1 m hO t) (ms0_2 m hO t) (hs0_2 m hO t) (ms0_3 m hO t) (hs0_3 m hO t) (ms0_4 m hO t) (hs0_4 m hO t)

/-- The body's triple from the buffers as found to the result's buffer at `X`, whichever branch ran. -/
theorem body_of (d : Vec F S512x3072 .bf16) (X : Vec F S512x3072 .bf16)
    (hrun : ∀ (K : PUnit → sProp 𝕄), iprop(owns (c : Thread nD τ) (ms0_0 m hO t) fullShare (iblk m hO c 0 t) ∗ owns (c : Thread nD τ) (ms0_1 m hO t) fullShare (iblk m hO c 1 t)
        ∗ owns (c : Thread nD τ) (ms0_2 m hO t) fullShare (iblk m hO c 2 t) ∗ owns (c : Thread nD τ) (ms0_3 m hO t) fullShare (iblk m hO c 3 t)
        ∗ owns (c : Thread nD τ) (ms0_4 m hO t) fullShare d
        ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4) ∗ tbPt0 c tbM0_5 (tbl m 5)
        ∗ (iprop(owns (c : Thread nD τ) (ms0_0 m hO t) fullShare (iblk m hO c 0 t) ∗ owns (c : Thread nD τ) (ms0_1 m hO t) fullShare (iblk m hO c 1 t)
          ∗ owns (c : Thread nD τ) (ms0_2 m hO t) fullShare (iblk m hO c 2 t) ∗ owns (c : Thread nD τ) (ms0_3 m hO t) fullShare (iblk m hO c 3 t)
          ∗ owns (c : Thread nD τ) (ms0_4 m hO t) fullShare X
          ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4) ∗ tbPt0 c tbM0_5 (tbl m 5)) -∗ K ⟨⟩))
      ⊢ wp frame (wpE (defs₀ (F := F)) Variants.none c none) Set.univ (bodyCall m hO t) K)
    (hpost : (owns (c : Thread nD τ) (ms0_4 m hO t) fullShare X : sProp 𝕄) ⊢ (dat m hO c).leavesExact 4 t) :
    iprop((dat m hO c).Φ t.castSucc ∗ (dat m hO c).owesAt () t.castSucc
      ∗ owns (c : Thread nD τ) (ms0_0 m hO t) fullShare (iblk m hO c 0 t) ∗ owns (c : Thread nD τ) (ms0_1 m hO t) fullShare (iblk m hO c 1 t)
      ∗ owns (c : Thread nD τ) (ms0_2 m hO t) fullShare (iblk m hO c 2 t) ∗ owns (c : Thread nD τ) (ms0_3 m hO t) fullShare (iblk m hO c 3 t)
      ∗ owns (c : Thread nD τ) (ms0_4 m hO t) fullShare d)
    ⊢ wp frame (wpE (defs₀ (F := F)) Variants.none c none) Set.univ (bodyCall m hO t) (fun _ => bodyPost m hO c t) := by
  unfold bodyPost
  rw [show (dat m hO c).owesAt () t.succ = (dat m hO c).owesAt () t.castSucc from rfl, after0, after1, after2, after3]
  rw [show (dat m hO c).Φ t.succ = iprop(Pipeline.ΦA spec0 c ∗ Pipeline.ΦT pre0 (tbl m) c) from rfl,
    show (dat m hO c).Φ t.castSucc = iprop(Pipeline.ΦA spec0 c ∗ Pipeline.ΦT pre0 (tbl m) c) from rfl, PhiT0_eq]
  iintro ⟨⟨HA, HT0, HT1, HT2, HT3, HT4, HT5⟩, Ho, H0, H1, H2, H3, H4⟩
  iapply (hrun _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  isplitl [HT5]; · iexact HT5
  iintro ⟨H0, H1, H2, H3, H4, HT0, HT1, HT2, HT3, HT4, HT5⟩
  isplitl [HA HT0 HT1 HT2 HT3 HT4 HT5]
  · isplitl [HA]; · iexact HA
    isplitl [HT0]; · iexact HT0
    isplitl [HT1]; · iexact HT1
    isplitl [HT2]; · iexact HT2
    isplitl [HT3]; · iexact HT3
    isplitl [HT4]; · iexact HT4
    iexact HT5
  isplitl [Ho]; · iexact Ho
  isplitl [H0]; · iexact H0
  isplitl [H1]; · iexact H1
  isplitl [H2]; · iexact H2
  isplitl [H3]; · iexact H3
  iapply hpost
  iexact H4

include hs in
theorem body_at (d) :
    iprop((dat m hO c).Φ t.castSucc ∗ (dat m hO c).owesAt () t.castSucc
      ∗ owns (c : Thread nD τ) (ms0_0 m hO t) fullShare (iblk m hO c 0 t) ∗ owns (c : Thread nD τ) (ms0_1 m hO t) fullShare (iblk m hO c 1 t)
      ∗ owns (c : Thread nD τ) (ms0_2 m hO t) fullShare (iblk m hO c 2 t) ∗ owns (c : Thread nD τ) (ms0_3 m hO t) fullShare (iblk m hO c 3 t)
      ∗ owns (c : Thread nD τ) (ms0_4 m hO t) fullShare ((dat m hO c).before 4 t d))
    ⊢ wp frame (wpE (defs₀ (F := F)) Variants.none c none) Set.univ (bodyCall m hO t) (fun _ => bodyPost m hO c t) := by
  have h1 := c1_at m hO hs c t
  have h2 := c2_at m hO hs c t
  by_cases ht : t.val < tot (gD m)
  · by_cases hw : Whole (gD m) t.val
    · rw [decide_eq_true ht, decide_eq_true hw] at h1 h2
      refine body_of m hO c t _ (outWhole (iblk m hO c 0 t) (iblk m hO c 1 t) (iblk m hO c 2 t) (iblk m hO c 3 t)) (fun K => ?_)
        (by rw [whole_eq m hO hs c t hw]; exact live_post m hO hs c t ht)
      exact run_whole c (grid0.coords t) _ _ _ _ _ _ _ _ _ _ _ _ _ _ _ _ _ _ _ _ _ (chk m hs c (grid0.coords t)) h1 (by rw [h2]; decide) Set.univ K
    · rw [decide_eq_true ht, decide_eq_false hw] at h1 h2
      refine body_of m hO c t _ _ (fun K => run_part c (grid0.coords t) _ _ _ _ _ _ _ _ _ _ _ _ _ _ _ _ _ _ _ _ _ (chk m hs c (grid0.coords t)) (by rw [h1]; decide) h2 Set.univ K) ?_
      rw [part_eq m hO hs c t ht d]; exact live_post m hO hs c t ht
  · rw [decide_eq_false ht] at h1 h2
    exact body_of m hO c t _ _ (fun K => run_none c (grid0.coords t) _ _ _ _ _ _ _ _ _ _ _ _ _ _ _ _ _ _ _ _ _ (chk m hs c (grid0.coords t))
      (by rw [h1]; cases decide (Whole (gD m) t.val) <;> decide) (by rw [h2]; cases decide (Whole (gD m) t.val) <;> decide) Set.univ K)
      (idle_post m hO hs c t (by omega) d)

include hs in
theorem sound_body : bodyPre m hO c t ⊢ wp frame (wpE (defs₀ (F := F)) Variants.none c none) Set.univ (bodyCall m hO t) (fun _ => bodyPost m hO c t) := by
  unfold bodyPre
  simp only [before0, before1, before2, before3]
  iintro ⟨HΦ, Ho, ⟨%d0, H0⟩, ⟨%d1, H1⟩, ⟨%d2, H2⟩, ⟨%d3, H3⟩, ⟨%d4, H4⟩⟩
  iapply (body_at m hO hs c t d4)
  isplitl [HΦ]; · iexact HΦ
  isplitl [Ho]; · iexact Ho
  isplitl [H0]; · iexact H0
  isplitl [H1]; · iexact H1
  isplitl [H2]; · iexact H2
  isplitl [H3]; · iexact H3
  iexact H4

theorem row_eq : defs₀ (F := F) .tc (cfgM m hO).body ((cfgM m hO).bodyArgs t ((cfgM m hO).slots t)) = bodyCall m hO t := by
  unfold defs₀; rw [Defs.onTc_tc]
end

/-- The body's triple at every point. -/
theorem body_obligation (hO : Ok m) (hs : Split m) (c : Dev nD) : BodyObligation (dat m hO c) (defs₀ (F := F)) Variants.none () Set.univ := fun t => by
  rw [bigSep_W0, bigSep_W0, row_eq]
  exact triple_restated (sound_body m hO hs c t) rfl .rfl fun _ => .rfl

end Cert.KernelIdeal.Val
-- ==== Proof.Launch.lean ====
/-
The whole program's run: it ends, with its arguments as they were, every counter at zero, and the result's rows the scaled
products.
-/
module
public import proofs.«01_k».proof.Proof.Obligation
public import Idealize.ShloMosaic.Lib.Pipeline.Value

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.WordCmp
open Cert.Sched (S E nb T tot st ex bk)

variable (m : (ℓ : Loc nD τ sig) → Buf (Elt F) ℓ)

variable (ρ : Dev nD → PrngReg)

/-- The one grid's loop data, core by core. -/
def dats (hO : Ok m) (p : Fin 1) (c : Dev nD) : Dat τ (Elt F) Unit ℕ (UR sig nD τ) ℕ (Pipeline.pin (pcfgs (F := F)) (fun _ => adm m hO) p) c := dat m hO c

theorem dats_A (hO : Ok m) (c : Dev nD) (w : Fin (cfgM m hO).W) : (dats m hO 0 c).A w = V m c (Pipeline.arrRef spec0 w) := dat_A m hO c w

set_option backward.isDefEq.respectTransparency.types false in
set_option maxHeartbeats 800000 in
/-- The run: every window's array ends as the loop leaves it, every other buffer as the grid found it, every counter at zero. -/
theorem run_main (hO : Ok m) (hs : Split m) : θ_run defs (onTc (τ := τ) (main (F := F))) (s₀ m ρ)
    (fun r => Pipeline.FramePost (Pipeline.pin (pcfgs (F := F)) (fun _ => adm m hO)) (dats m hO) 0 (V m) r ∧ r.2.sem = fun _ => 0) :=
  Pipeline.θ_run_frameP (Q' := _) (pcfgs (F := F)) (fun _ => adm m hO) (dats m hO) (0 : Fin 1) launch0 defs₀ Variants.none m ρ main
    (hbody := fun c => (body_obligation m hO hs c).loose) (hshare := fun c => (dat m hO c).share_full fun _ => rfl)
    (howed := fun _ _ => rfl) (V := V m) (hmain := hmain m Variants.none) (hA := dats_A m hO) (hpf := fun c k => V_pre m c k)
    (hΦ := fun _ _ => rfl)

theorem unstaged2 (w : Fin 5) : (spec0 w).arr.view.ref ≠ main_arg2 := by revert w; decide
theorem unstaged4 (w : Fin 5) : (spec0 w).arr.view.ref ≠ main_arg4 := by revert w; decide

/-- The arguments end as they were. -/
theorem args_of (hO : Ok m) (r : PUnit × MemSt nD τ sig (Elt F))
    (h : Pipeline.FramePost (Pipeline.pin (pcfgs (F := F)) (fun _ => adm m hO)) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m hO 0 c).arrAt_in 0 rfl _).trans ((dats_A m hO c 0).trans (V_main_arg0 m c))),
    ((h c).1 1).trans (((dats m hO 0 c).arrAt_in 1 rfl _).trans ((dats_A m hO c 1).trans (V_main_arg1 m c))),
    ((h c).2 main_arg2 (Pipeline.mem_restRefs_of main_arg2 (by decide) unstaged2)).trans (V_main_arg2 m c),
    ((h c).1 2).trans (((dats m hO 0 c).arrAt_in 2 rfl _).trans ((dats_A m hO c 2).trans (V_main_arg3 m c))),
    ((h c).2 main_arg4 (Pipeline.mem_restRefs_of main_arg4 (by decide) unstaged4)).trans (V_main_arg4 m c)⟩

/-- The frame. -/
theorem frame (hs : Split m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_of m (ok_of m hs) r h.1, h.2⟩) (run_main m ρ (ok_of m hs) hs)

/-! ## The result -/

/-- The result array: row `R` the scaled product of row `R` with its expert's weights. -/
def result (c : Dev nD) : Vec F S98304x3072 .bf16 := fun p => yRow (A0 m c) (A1 m c) (A3 m c) (A4 m c) (gD m) (p 0).val (p 1)

theorem held_result (hO : Ok m) (hs : Split m) (c : Dev nD) (t : Fin (cfgM m hO).N) (hf : ((cfgM m hO).win 4).flush t = true)
    (p : S512x3072.Idx) (q : S98304x3072.Idx) (h0 : (q 0).val = bk (gD m) t.val * 512 + (p 0).val) (h1 : (q 1).val = (p 1).val) :
    heldM m c t.val p = result m c q := by
  have hE : (bk (gD m) t.val + 1) * 512 ≤ E (gD m) (ex (gD m) t.val) := by
    refine Cert.Sched.complete hs t.val fun hlt => ?_
    rcases (flush_iff m hO hs t).mp hf with h | ⟨_, h⟩
    · exact absurd h (Nat.ne_of_lt hlt)
    · exact h
  have hp : (p 0).val < 512 := (p 0).isLt
  refine (if_pos (by omega)).trans ?_
  exact congr (congrArg (yRow (A0 m c) (A1 m c) (A3 m c) (A4 m c) (gD m)) h0.symm) (Fin.ext h1.symm)

theorem read4 (a : (pcfg0 (F := F)).Adm) (X : S98304x3072.Idx → Elt F .bf16) (t : Fin grid0.N) (p : S512x3072.Idx) (q : S98304x3072.Idx)
    (h : ∀ k : Fin 2, ((((cfg0 a).win 4).rect t).emb p k : ℕ) = (q k).val) :
    ((((cfg0 a).win 4).blk t).view.read (Elt F) X : Vec F S512x3072 .bf16) p = X q :=
  congrArg X (funext fun k => Fin.ext (h k))

/-- Where block `b`'s element `p` lies in the result. -/
def place (b : ℕ) (hb : b < 192) (p : S512x3072.Idx) : S98304x3072.Idx :=
  ix2 (n0 := 98304) (n1 := 3072) ⟨b * 512 + (p 0).val, by have : (p 0).val < 512 := (p 0).isLt; omega⟩ (p 1)

theorem emb_place (hO : Ok m) (hs : Split m) (t : Fin (cfgM m hO).N) (p : S512x3072.Idx) (k : Fin 2) :
    ((((cfgM m hO).win 4).rect t).emb p k : ℕ) = (place (bk (gD m) t.val) (Cert.Sched.bk_lt hs _) p k).val := by
  refine (emb4 m hO hs t p k).trans ?_
  match k with
  | ⟨0, _⟩ => rfl
  | ⟨1, _⟩ => show 0 * 3072 + (p 1).val = (p 1).val; omega

theorem flushed_eq (hO : Ok m) (hs : Split m) (c : Dev nD) (t : Fin (cfgM m hO).N) (hf : ((cfgM m hO).win 4).flush t = true) :
    (dat m hO c).flushed 4 t = (((cfgM m hO).win 4).blk t).view.read (Elt F) (result m c) := by
  refine funext fun (p : S512x3072.Idx) => ?_
  have h1 := congrFun (after4 m hO c t) p
  have h2 := held_result m hO hs c t hf p (place (bk (gD m) t.val) (Cert.Sched.bk_lt hs _) p) rfl rfl
  have h3 := read4 (adm m hO) (result m c) t p _ (emb_place m hO hs t p)
  exact (h1.trans h2).trans h3.symm

theorem mem4 (a : (pcfg0 (F := F)).Adm) (t : Fin grid0.N) (p : S512x3072.Idx) (q : S98304x3072.Idx)
    (h : ∀ k : Fin 2, ((((cfg0 a).win 4).rect t).emb p k : ℕ) = (q k).val) : q ∈ (((cfg0 a).win 4).blk t).view.set := by
  have h1 := (((cfg0 a).win 4).blk t).view.emb_mem_set p
  have h2 : (((cfg0 a).win 4).blk t).view.emb p = q := funext fun k => Fin.ext (h k)
  exact h2 ▸ h1

/-- Every row is in some block written back. -/
theorem covered (hO : Ok m) (hs : Split m) (q : S98304x3072.Idx) :
    ∃ t : Fin (cfgM m hO).N, ((cfgM m hO).win 4).flush t = true ∧ q ∈ (((cfgM m hO).win 4).blk t).view.set := by
  have hq : (q 0).val < 98304 := (q 0).isLt
  obtain ⟨s, hlt, hb, hn⟩ := Cert.Sched.visited hs ((q 0).val / 512) (by omega)
  have hN : s < (cfgM m hO).N := lt_of_lt_of_eq hlt (NM_eq m hO).symm
  refine ⟨⟨s, hN⟩, (flush_iff m hO hs ⟨s, hN⟩).mpr ?_, ?_⟩
  · by_cases h : s + 1 = 199
    · exact .inl h
    · have h' : s + 1 < 199 := by omega
      exact .inr ⟨h', by rw [hb]; exact hn h'⟩
  · refine mem4 (adm m hO) ⟨s, hN⟩ (ix2 (n0 := 512) (n1 := 3072) ⟨(q 0).val % 512, by omega⟩ (q 1)) q fun k => (emb_place m hO hs ⟨s, hN⟩ _ k).trans ?_
    match k with
    | ⟨0, _⟩ => show bk (gD m) s * 512 + (q 0).val % 512 = (q 0).val; rw [hb]; omega
    | ⟨1, _⟩ => rfl

theorem arrAt_eq (hO : Ok m) (hs : Split m) (c : Dev nD) : (dat m hO c).arrAt 4 (cfgM m hO).N = result m c :=
  (dat m hO c).arrAt_eq_of_cover 4 (result m c) (fun t hf => flushed_eq m hO hs c t hf) (fun q => covered m hO hs q)

/-- The run with its result. -/
theorem value (hs : Split m) : θ_run defs (onTc (τ := τ) (main (F := F))) ⟨m, fun _ => 0, ρ⟩ (fun r => ∀ c : Dev nD,
      r.2.mem ((c.tc : Thread nD τ).loc main_v50) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 4).trans (arrAt_eq m (ok_of m hs) hs c), args_of m (ok_of m hs) r h.1 c⟩) (run_main m ρ (ok_of m hs) hs)

end Cert.KernelIdeal.Val
-- ==== Proof.Sizes.lean ====
/-
The precondition read back as numbers: where it holds, the eight group sizes are the counts of a split of the 98304 rows.
-/
module
public import proofs.«01_k».proof.Proof.Host
public import proofs.«01_k».proof.Proof.Gen.Pre_sizes_split_tokens

@[expose] public section

noncomputable section

namespace Cert.Sizes

open Idealize.ShloMosaic Idealize.ShloMosaic.Routing Idealize.ShloMosaic.ValueIdx Idealize.ShloMosaic.WordCmp
open Cert.Pre_sizes_split_tokens
open Cert.Sched (S)

variable {F : FTy → Type} [FloatOps F]

/-- The group sizes as numbers. -/
def sizes (x : IVec S8 32) (e : ℕ) : ℕ := if h : e < 8 then (x (ix1 ⟨e, h⟩)).toNat else 0

theorem sizes_at (x : IVec S8 32) (e : Fin 8) : x (ix1 e) = BitVec.ofNat 32 (sizes x e.val) := by
  unfold sizes
  rw [dif_pos e.isLt, BitVec.ofNat_toNat, BitVec.setWidth_eq]

/-- A conjunction of two bits is set only where both are. -/
theorem and_bit : ∀ a b : BitVec 1, IntOp.andi a b = 1#1 → a = 1#1 ∧ b = 1#1 := by decide

/-- A word from 0 to 98304, compared signed, is a number of at most 98304. -/
theorem word_le (x : BitVec 32) (h0 : IntOp.cmpi .sge x 0#32 = 1#1) (h1 : IntOp.cmpi .sle x 98304#32 = 1#1) : x.toNat ≤ 98304 := by
  have e0 : (0#32 : BitVec 32).sle x = true := by
    have h : BitVec.ofBool ((0#32 : BitVec 32).sle x) = 1#1 := h0
    revert h; cases (0#32 : BitVec 32).sle x <;> simp
  have e1 : x.sle 98304#32 = true := by
    have h : BitVec.ofBool (x.sle 98304#32) = 1#1 := h1
    revert h; cases x.sle 98304#32 <;> simp
  rw [BitVec.sle_iff_toInt_le] at e0 e1
  rw [BitVec.toInt_eq_toNat_cond] at e0 e1
  rw [BitVec.toInt_eq_toNat_cond] at e0 e1
  simp only [BitVec.toNat_ofNat] at e0 e1
  have := x.isLt
  split at e0 <;> split at e1 <;> omega

theorem sizes_split [Facts] (a0 : FVec F S98304x4096 .fp8e4m3) (a1 : FVec F S98304x1 .f32) (x : IVec S8 32) (a3 : FVec F S8x4096x3072 .fp8e4m3) (a4 : FVec F S8x3072 .f32)
    (h : fn a0 a1 x a3 a4 = fun _ => 1#1) : S (sizes x) 8 = 98304 := by
  have h8 : ∀ e : Fin 8, IntOp.andi (IntOp.andi (IntOp.cmpi .sge (x (ix1 e)) 0#32) (IntOp.cmpi .sle (x (ix1 e)) 98304#32))
      (IntOp.cmpi .eq (Host.reduce IntOp.addi x (constantI S_ 32 0#32) Facts.reducesTo_S8_S_d0 Facts.h_S_ ix0) 98304#32) = 1#1 := fun e => by
    have he := congrFun h (ix1 e)
    refine Eq.trans ?_ he
    refine congrArg₂ IntOp.andi rfl ?_
    exact (bc0 (s := S8) Facts.bcast_S_S8 (cmpi .eq (Host.reduce IntOp.addi x (constantI S_ 32 0#32) Facts.reducesTo_S8_S_d0 Facts.h_S_)
      (constantI S_ 32 98304#32)) (ix1 e)).symm
  have hle : ∀ e, e < 8 → sizes x e ≤ 98304 := fun e he => by
    have hb := and_bit _ _ (and_bit _ _ (h8 ⟨e, he⟩)).1
    unfold sizes
    rw [dif_pos he]
    exact word_le _ hb.1 hb.2
  have hs := (and_bit _ _ (h8 0)).2
  rw [reduce_sum (N := 8) x (sizes x) (sizes_at x), Cert.KernelIdeal.Val.sum_map_range] at hs
  have hb : S (sizes x) 8 ≤ 8 * 98304 := by
    refine (Finset.sum_le_card_nsmul _ _ 98304 fun e he => hle e (Finset.mem_range.1 he)).trans ?_
    simp
  have hw : BitVec.ofNat 32 (S (sizes x) 8) = BitVec.ofNat 32 98304 := by
    have h' : BitVec.ofBool (BitVec.ofNat 32 (S (sizes x) 8) == 98304#32) = 1#1 := hs
    have : (BitVec.ofNat 32 (S (sizes x) 8) == 98304#32) = true := by
      revert h'; cases (BitVec.ofNat 32 (S (sizes x) 8) == 98304#32) <;> simp
    exact eq_of_beq this
  have ht := congrArg BitVec.toNat hw
  rw [BitVec.toNat_ofNat, BitVec.toNat_ofNat] at ht
  omega

end Cert.Sizes

end
-- ==== Proof.RefHost.lean ====
/-
The reference's host operations, read stretch by stretch over any valuation: the expert of each row, one masked product per expert, and
the scales.
-/
module
public import proofs.«01_k».proof.Proof.Gen.ReferenceIdeal.Launch
public import Idealize.ShloMosaic.Lib.StableHlo.RunRead

@[expose] public section

set_option maxRecDepth 16384

noncomputable section

namespace Cert.ReferenceIdeal.Val

open Cert.ReferenceIdeal.Gen
open Idealize.ShloMosaic Idealize.ShloMosaic.TcCoe Idealize.ShloMosaic.Tactic
open Idealize.SL Idealize.SL.Sem

variable {F : FTy → Type} [FloatOps F]

/-- jnp's cumsum of eight words, as the program prints it. -/
def cumsum8 (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- For each of the rows `y`, how many of the eight ends `x` it has passed. -/
def passed (x : IVec S8 32) (y : IVec S98304 32) : IVec S98304 32 :=
  Host.reduce IntOp.addi (extui 32 (cmpi .sle (broadcastInDim S8x98304 ![0, 1] bcast_S8x1_S8x98304_0_1 (broadcastInDim S8x1 ![0] bcast_S8_S8x1_0 x))
    (broadcastInDim S8x98304 ![0, 1] bcast_S1x98304_S8x98304_0_1 (broadcastInDim S1x98304 ![1] bcast_S98304_S1x98304_1 y))) natLt_1_32)
    (constantI S_ 32 0#32) reducesTo_S8x98304_S98304_d0 h_S_

/-- A clip to 0 … 7. -/
def clip7 (x : IVec S98304 32) : IVec S98304 32 :=
  minsi (broadcastInDim S98304 ![] bcast_S_S98304 (constantI S_ 32 7#32)) (maxsi (broadcastInDim S98304 ![] bcast_S_S98304 (constantI S_ 32 0#32)) x)

/-- Where a row's expert is `b`, the product of the rows with slice `e` of the weights; elsewhere what was there. -/
def pick (x : FVec F S98304x4096 .f32) (w : FVec F S8x4096x3072 .f32) (id : IVec S98304 32) (e : ℕ) (h : S8x4096x3072.Slices ![e, 0, 0] S1x4096x3072)
    (b : BitVec 32) (prev : FVec F S98304x3072 .f32) : FVec F S98304x3072 .f32 :=
  select (broadcastInDim S98304x3072 ![0, 1] bcast_S98304x1_S98304x3072_0_1 (cmpi .eq (broadcastInDim S98304x1 ![0] bcast_S98304_S98304x1_0 id)
      (broadcastInDim S98304x1 ![] bcast_S_S98304x1 (constantI S_ 32 b))))
    (Host.dotGeneral dot_S98304x4096_S4096x3072_S98304x3072_1_0_0_1_n_n none x
      (shapeCast S4096x3072 (extractStridedSlice S1x4096x3072 ![e, 0, 0] w h) shapeCasts_S1x4096x3072_S4096x3072)) prev

/-- jnp's wrap of negative indices into an axis of eight. -/
def wrap8 (x : IVec S98304 32) : IVec S98304 32 :=
  select (cmpi .slt x (broadcastInDim S98304 ![] bcast_S_S98304 (constantI S_ 32 0#32)))
    (addi x (broadcastInDim S98304 ![] bcast_S_S98304 (constantI S_ 32 8#32))) x

/-- The scales applied, and the cast. -/
def scaled (acc : FVec F S98304x3072 .f32) (s : FVec F S98304x1 .f32) (v : FVec F S8x3072 .f32) (id : IVec S98304 32) : FVec F S98304x3072 .bf16 :=
  truncf .bf16 (mulf (mulf acc (broadcastInDim S98304x3072 ![0, 1] bcast_S98304x1_S98304x3072_0_1 s))
    (Host.gather gather_S8x3072_S98304x1_S98304x3072_1_0_n_n_0_1_13072 v (broadcastInDim S98304x1 ![0] bcast_S98304_S98304x1_0 (wrap8 id)))) bitsLt_bf16_f32

variable (X : Valuation τ sig (Elt F))

theorem read_v1 : (StableHlo.after hostOps1 X (Proc.devRef .tc main_v1) : IVec S8 32) = cumsum8 (X (Proc.devRef .tc main_arg2)) := by
  after_reads_simp; simp only [StableHlo.TRef.ofBuf_toBuf]; unfold cumsum8; simp -implicitDefEqProofs only [StableHlo.TRef.toBuf, StableHlo.TRef.ofBuf, cast_cast, cast_eq]
theorem read_v2 : (StableHlo.after hostOps1_1 X (Proc.devRef .tc main_v2) : IVec S98304 32) = iotaInDim S98304 32 0 := by
  after_reads_simp
theorem read_v3 : (StableHlo.after hostOps1_2 X (Proc.devRef .tc main_v3) : IVec S98304 32) = passed (X (Proc.devRef .tc main_v1)) (X (Proc.devRef .tc main_v2)) := by
  after_reads_simp; simp only [StableHlo.TRef.ofBuf_toBuf]; unfold passed; simp -implicitDefEqProofs only [StableHlo.TRef.toBuf, StableHlo.TRef.ofBuf, cast_cast, cast_eq]
theorem read_v4 : (StableHlo.after hostOps1_4 (StableHlo.after hostOps1_3 X) (Proc.devRef .tc main_v4) : IVec S98304 32) = clip7 (X (Proc.devRef .tc main_v3)) := by
  after_reads_simp; simp only [StableHlo.TRef.ofBuf_toBuf]; rfl
theorem read_v12 : (StableHlo.after hostOps1_6 (StableHlo.after hostOps1_5 X) (Proc.devRef .tc main_v12) : FVec F S98304x3072 .f32)
    = pick (X (Proc.devRef .tc main_v0_0)) (X (Proc.devRef .tc main_v0_1)) (X (Proc.devRef .tc main_v4)) 0 slices_S8x4096x3072_S1x4096x3072_0_0_0 0#32
      (broadcastInDim S98304x3072 ![] bcast_S_S98304x3072 (constant S_ .f32 0x00000000#32)) := by
  after_reads_simp; simp only [StableHlo.TRef.ofBuf_toBuf]; rfl
theorem read_v19 : (StableHlo.after hostOps1_8 (StableHlo.after hostOps1_7 X) (Proc.devRef .tc main_v19) : FVec F S98304x3072 .f32)
    = pick (X (Proc.devRef .tc main_v0_0)) (X (Proc.devRef .tc main_v0_1)) (X (Proc.devRef .tc main_v4)) 1 slices_S8x4096x3072_S1x4096x3072_1_0_0 1#32 (X (Proc.devRef .tc main_v12)) := by
  after_reads_simp; simp only [StableHlo.TRef.ofBuf_toBuf]; rfl
theorem read_v26 : (StableHlo.after hostOps1_10 (StableHlo.after hostOps1_9 X) (Proc.devRef .tc main_v26) : FVec F S98304x3072 .f32)
    = pick (X (Proc.devRef .tc main_v0_0)) (X (Proc.devRef .tc main_v0_1)) (X (Proc.devRef .tc main_v4)) 2 slices_S8x4096x3072_S1x4096x3072_2_0_0 2#32 (X (Proc.devRef .tc main_v19)) := by
  after_reads_simp; simp only [StableHlo.TRef.ofBuf_toBuf]; rfl
theorem read_v33 : (StableHlo.after hostOps1_12 (StableHlo.after hostOps1_11 X) (Proc.devRef .tc main_v33) : FVec F S98304x3072 .f32)
    = pick (X (Proc.devRef .tc main_v0_0)) (X (Proc.devRef .tc main_v0_1)) (X (Proc.devRef .tc main_v4)) 3 slices_S8x4096x3072_S1x4096x3072_3_0_0 3#32 (X (Proc.devRef .tc main_v26)) := by
  after_reads_simp; simp only [StableHlo.TRef.ofBuf_toBuf]; rfl
theorem read_v40 : (StableHlo.after hostOps1_14 (StableHlo.after hostOps1_13 X) (Proc.devRef .tc main_v40) : FVec F S98304x3072 .f32)
    = pick (X (Proc.devRef .tc main_v0_0)) (X (Proc.devRef .tc main_v0_1)) (X (Proc.devRef .tc main_v4)) 4 slices_S8x4096x3072_S1x4096x3072_4_0_0 4#32 (X (Proc.devRef .tc main_v33)) := by
  after_reads_simp; simp only [StableHlo.TRef.ofBuf_toBuf]; rfl
theorem read_v47 : (StableHlo.after hostOps1_16 (StableHlo.after hostOps1_15 X) (Proc.devRef .tc main_v47) : FVec F S98304x3072 .f32)
    = pick (X (Proc.devRef .tc main_v0_0)) (X (Proc.devRef .tc main_v0_1)) (X (Proc.devRef .tc main_v4)) 5 slices_S8x4096x3072_S1x4096x3072_5_0_0 5#32 (X (Proc.devRef .tc main_v40)) := by
  after_reads_simp; simp only [StableHlo.TRef.ofBuf_toBuf]; rfl
theorem read_v54 : (StableHlo.after hostOps1_18 (StableHlo.after hostOps1_17 X) (Proc.devRef .tc main_v54) : FVec F S98304x3072 .f32)
    = pick (X (Proc.devRef .tc main_v0_0)) (X (Proc.devRef .tc main_v0_1)) (X (Proc.devRef .tc main_v4)) 6 slices_S8x4096x3072_S1x4096x3072_6_0_0 6#32 (X (Proc.devRef .tc main_v47)) := by
  after_reads_simp; simp only [StableHlo.TRef.ofBuf_toBuf]; rfl
theorem read_v61 : (StableHlo.after hostOps1_20 (StableHlo.after hostOps1_19 X) (Proc.devRef .tc main_v61) : FVec F S98304x3072 .f32)
    = pick (X (Proc.devRef .tc main_v0_0)) (X (Proc.devRef .tc main_v0_1)) (X (Proc.devRef .tc main_v4)) 7 slices_S8x4096x3072_S1x4096x3072_7_0_0 7#32 (X (Proc.devRef .tc main_v54)) := by
  after_reads_simp; simp only [StableHlo.TRef.ofBuf_toBuf]; rfl
theorem read_v72 : (StableHlo.after hostOps1_21 X (Proc.devRef .tc main_v72) : FVec F S98304x3072 .bf16)
    = scaled (X (Proc.devRef .tc main_v61)) (X (Proc.devRef .tc main_arg1)) (X (Proc.devRef .tc main_arg4)) (X (Proc.devRef .tc main_v4)) := by
  after_reads_simp; rfl

end Cert.ReferenceIdeal.Val

end
-- ==== Proof.RefIndex.lean ====
/-
The reference's result over the extended reals: entry (R, j) is the product of row R with column j of its expert's weights, times the
row's scale, times the column's.
-/
module
public import proofs.«01_k».proof.Proof.RefHost
public import proofs.«01_k».proof.Proof.Merge
public import proofs.«01_k».proof.Proof.Host
public import Idealize.ShloMosaic.Lib.StackMember
public import Idealize.ShloMosaic.Lib.IdealHost
public import Idealize.ShloMosaic.Lib.Pipeline.Value

@[expose] public section

set_option maxRecDepth 16384

noncomputable section

namespace Cert.ReferenceIdeal.Val

open Cert.ReferenceIdeal.Gen
open Idealize.ShloMosaic Idealize.ShloMosaic.TcCoe
open Idealize.ShloMosaic.Routing Idealize.ShloMosaic.ValueIdx Idealize.ShloMosaic.WordCmp
open Cert.Sched (S E)
open Cert.KernelIdeal.Val (own own_eq sum_map_range)

variable {F : FTy → Type} [FloatOps F]

/-! ## The expert of a row -/

theorem cumsum8_at (x : IVec S8 32) (f : ℕ → ℕ) (hx : ∀ e : Fin 8, x (ix1 e) = BitVec.ofNat 32 (f e.val)) (e : Fin 8) :
    cumsum8 x (ix1 e) = BitVec.ofNat 32 (∑ k ∈ Finset.range (e.val + 1), f k) := by
  unfold cumsum8
  rw [← sum_map_range]
  exact cumsum1 (N := 8) (Nm1 := 7) rfl x f hx _ rfl _ _ e

/-- How many of eight words are at most a row's word. -/
theorem passed_at (x : IVec S8 32) (y : IVec S98304 32) (s : Fin 98304) (f : ℕ → ℕ) (b : ℕ) (hf : ∀ e, e < 8 → f e < 2 ^ 31) (hb : b < 2 ^ 31)
    (hx : ∀ e : Fin 8, x (ix1 e) = BitVec.ofNat 32 (f e.val)) (hy : y (ix1 s) = BitVec.ofNat 32 b) :
    passed x y (ix1 s) = BitVec.ofNat 32 (∑ e ∈ Finset.range 8, if f e ≤ b then 1 else 0) := by
  unfold passed
  apply BitVec.eq_of_toNat_eq
  have hle : (∑ e ∈ Finset.range 8, if f e ≤ b then 1 else 0) ≤ 8 :=
    (Finset.sum_le_sum fun e _ => show (if f e ≤ b then 1 else 0) ≤ 1 by split <;> omega).trans (by simp)
  rw [StableHlo.Predicate.toNat_reduce_count_rows (n := 8) (m := 98304) (by omega), toNat_ofNat_of_lt (w := 32) (by omega), Finset.card_filter,
    ← Fin.sum_univ_eq_sum_range (fun e => if f e ≤ b then 1 else 0) 8]
  refine Finset.sum_congr rfl fun e _ => ?_
  have hm : cmpi .sle (broadcastInDim S8x98304 ![0, 1] bcast_S8x1_S8x98304_0_1 (broadcastInDim S8x1 ![0] bcast_S8_S8x1_0 x))
      (broadcastInDim S8x98304 ![0, 1] bcast_S1x98304_S8x98304_0_1 (broadcastInDim S1x98304 ![1] bcast_S98304_S1x98304_1 y)) (ix2 e s)
      = BitVec.ofBool (decide (f e.val ≤ b)) := by
    show IntOp.cmpi .sle (broadcastInDim S8x98304 ![0, 1] bcast_S8x1_S8x98304_0_1 (broadcastInDim S8x1 ![0] bcast_S8_S8x1_0 x) (ix2 e s))
      (broadcastInDim S8x98304 ![0, 1] bcast_S1x98304_S8x98304_0_1 (broadcastInDim S1x98304 ![1] bcast_S98304_S1x98304_1 y) (ix2 e s)) = _
    rw [bcRows, bcCols, hx e, hy, cmpi_sle_ofNat (w := 32) (hf _ e.isLt) hb]
  refine if_congr ?_ rfl rfl
  refine Iff.trans (Eq.to_iff (congrArg (· = 1#1) (Eq.trans (congrArg _ (ij_eq_ix2 e s)) hm))) ?_
  exact ofBool_decide_eq_one_iff _

theorem clip7_at (x : IVec S98304 32) (s : Fin 98304) {k : ℕ} (hk : k < 8) (hx : x (ix1 s) = BitVec.ofNat 32 k) : clip7 x (ix1 s) = BitVec.ofNat 32 k := by
  unfold clip7
  show IntOp.minsi (broadcastInDim S98304 ![] bcast_S_S98304 (constantI S_ 32 7#32) (ix1 s))
    (IntOp.maxsi (broadcastInDim S98304 ![] bcast_S_S98304 (constantI S_ 32 0#32) (ix1 s)) (x (ix1 s))) = _
  rw [bc0, bc0, hx]
  show IntOp.minsi (BitVec.ofNat 32 7) (IntOp.maxsi (BitVec.ofNat 32 0) (BitVec.ofNat 32 k)) = _
  rw [clip_word (by omega) (by omega) (by omega)]
  exact congrArg (BitVec.ofNat 32) (by omega)

theorem wrap8_at (x : IVec S98304 32) (s : Fin 98304) {k : ℕ} (hk : k < 8) (hx : x (ix1 s) = BitVec.ofNat 32 k) :
    wrap8 x (ix1 s) = BitVec.ofNat 32 k := by
  rw [← hx]
  refine wrap_of_lt _ _ ?_
  rw [hx, toNat_ofNat_of_lt (w := 32) (by omega)]; omega

/-- A row below the last end belongs to one of the eight experts. -/
theorem own_lt (g : ℕ → ℕ) (hS : S g 8 = 98304) (R : Fin 98304) : own g R.val < 8 := by
  unfold own
  rw [Finset.sum_range_succ, if_neg (show ¬ E g 7 ≤ R.val from by
    have h := R.isLt
    have : E g 7 = 98304 := hS
    omega)]
  have : (∑ e ∈ Finset.range 7, if E g e ≤ R.val then 1 else 0) ≤ 7 :=
    (Finset.sum_le_sum fun e _ => show (if E g e ≤ R.val then 1 else 0) ≤ 1 by split <;> omega).trans (by simp)
  omega

/-- The expert of each row, from the group sizes. -/
def ids (x : IVec S8 32) : IVec S98304 32 := clip7 (passed (cumsum8 x) (iotaInDim S98304 32 0))

theorem ids_at (x : IVec S8 32) (g : ℕ → ℕ) (hx : ∀ e : Fin 8, x (ix1 e) = BitVec.ofNat 32 (g e.val)) (hS : S g 8 = 98304) (R : Fin 98304) :
    ids x (ix1 R) = BitVec.ofNat 32 (own g R.val) := by
  unfold ids
  refine clip7_at _ R (own_lt g hS R) ?_
  refine passed_at _ _ R (E g) R.val (fun e he => ?_) (by have := R.isLt; omega) (fun e => cumsum8_at x g hx e) rfl
  have : E g e ≤ S g 8 := Cert.Sched.S_mono (g := g) (show e + 1 ≤ 8 by omega)
  omega

/-! ## One expert's masked product -/

theorem pick_at (x : FVec Ideal S98304x4096 .f32) (w : FVec Ideal S8x4096x3072 .f32) (id : IVec S98304 32) (e : Fin 8)
    (h : S8x4096x3072.Slices ![e.val, 0, 0] S1x4096x3072) (b : BitVec 32) (hb : b = BitVec.ofNat 32 e.val) (prev : FVec Ideal S98304x3072 .f32)
    (R : Fin 98304) (j : Fin 3072) (k : ℕ) (hk : k < 8) (hid : id (ix1 R) = BitVec.ofNat 32 k) :
    pick x w id e.val h b prev (ix2 R j) = if k = e.val then ∑ i : Fin 4096, (x (ix2 R i) : EReal) * (w (ix3 e i j) : EReal) else prev (ix2 R j) := by
  unfold pick
  rw [ValueIdx.select_apply]
  rw [broadcastInDim_apply _ bcast_S98304x1_S98304x3072_0_1 _ (ix2 R j) (ix2 R (0 : Fin 1)) (fun a => by
    match a with
    | ⟨0, _⟩ => rfl
    | ⟨1, _⟩ => rfl)]
  rw [show cmpi .eq (broadcastInDim S98304x1 ![0] bcast_S98304_S98304x1_0 id) (broadcastInDim S98304x1 ![] bcast_S_S98304x1 (constantI S_ 32 b)) (ix2 R (0 : Fin 1))
      = BitVec.ofBool (decide (k = e.val)) from by
    show IntOp.cmpi .eq (broadcastInDim S98304x1 ![0] bcast_S98304_S98304x1_0 id (ix2 R (0 : Fin 1))) b = _
    rw [bcCol, hid, hb, cmpi_eq_ofNat (w := 32) (by omega) (by have := e.isLt; omega)]]
  rw [WordCmp.select_decide]
  refine if_congr Iff.rfl ?_ rfl
  refine (StackMember.dotGeneral_plain_apply (m := 98304) (n := 3072) (k := 4096) none x _ R j).trans (Finset.sum_congr rfl fun i _ => ?_)
  refine congrArg (fun z : EReal => (x (ix2 R i) : EReal) * z) ?_
  refine (shapeCast_apply _ shapeCasts_S1x4096x3072_S4096x3072 (ix2 i j) (ix3 (0 : Fin 1) i j) (by
    rw [Shape.rowMajor_val_two, Shape.rowMajor_val_three]
    show (0 * 4096 + i.val) * 3072 + j.val = i.val * 3072 + j.val
    omega)).trans ?_
  refine extractStridedSlice_apply _ w h (ix3 (0 : Fin 1) i j) (ix3 e i j) (fun a => ?_)
  match a with
  | ⟨0, _⟩ => rfl
  | ⟨1, _⟩ => exact (Nat.zero_add _).symm
  | ⟨2, _⟩ => exact (Nat.zero_add _).symm

/-- The eight masked products, one after the other. -/
def picks (x : FVec F S98304x4096 .f32) (w : FVec F S8x4096x3072 .f32) (id : IVec S98304 32) : FVec F S98304x3072 .f32 :=
  pick x w id 7 slices_S8x4096x3072_S1x4096x3072_7_0_0 7#32 <| pick x w id 6 slices_S8x4096x3072_S1x4096x3072_6_0_0 6#32 <|
  pick x w id 5 slices_S8x4096x3072_S1x4096x3072_5_0_0 5#32 <| pick x w id 4 slices_S8x4096x3072_S1x4096x3072_4_0_0 4#32 <|
  pick x w id 3 slices_S8x4096x3072_S1x4096x3072_3_0_0 3#32 <| pick x w id 2 slices_S8x4096x3072_S1x4096x3072_2_0_0 2#32 <|
  pick x w id 1 slices_S8x4096x3072_S1x4096x3072_1_0_0 1#32 <| pick x w id 0 slices_S8x4096x3072_S1x4096x3072_0_0_0 0#32 <|
  broadcastInDim S98304x3072 ![] bcast_S_S98304x3072 (constant S_ .f32 0x00000000#32)

theorem picks_at (x : FVec Ideal S98304x4096 .f32) (w : FVec Ideal S8x4096x3072 .f32) (id : IVec S98304 32)
    (R : Fin 98304) (j : Fin 3072) (k : Fin 8) (hid : id (ix1 R) = BitVec.ofNat 32 k.val) :
    picks x w id (ix2 R j) = ∑ i : Fin 4096, (x (ix2 R i) : EReal) * (w (ix3 k i j) : EReal) := by
  unfold picks
  have hp := fun (e : ℕ) (he : e < 8) h b hb prev => pick_at x w id ⟨e, he⟩ h b hb prev R j k.val k.isLt hid
  rw [hp 7 (by decide) _ _ rfl, hp 6 (by decide) _ _ rfl, hp 5 (by decide) _ _ rfl, hp 4 (by decide) _ _ rfl, hp 3 (by decide) _ _ rfl, hp 2 (by decide) _ _ rfl, hp 1 (by decide) _ _ rfl, hp 0 (by decide) _ _ rfl]
  obtain ⟨k, hk⟩ := k
  interval_cases k <;> rfl

theorem scaled_at (acc : FVec Ideal S98304x3072 .f32) (s : FVec Ideal S98304x1 .f32) (v : FVec Ideal S8x3072 .f32) (id : IVec S98304 32)
    (R : Fin 98304) (j : Fin 3072) (k : Fin 8) (hid : id (ix1 R) = BitVec.ofNat 32 k.val) :
    scaled acc s v id (ix2 R j) = ((acc (ix2 R j) : EReal) * (s (ix2 R (0 : Fin 1)) : EReal)) * (v (ix2 k j) : EReal) := by
  unfold scaled
  refine congrArg₂ (fun a b : EReal => a * b) (congrArg (fun a : EReal => (acc (ix2 R j) : EReal) * a) ?_) ?_
  · exact broadcastInDim_apply _ bcast_S98304x1_S98304x3072_0_1 s (ix2 R j) (ix2 R (0 : Fin 1)) (fun a => by
      match a with
      | ⟨0, _⟩ => rfl
      | ⟨1, _⟩ => rfl)
  · refine gather_row _ rfl rfl rfl rfl rfl v _ R j k ?_ (by omega)
    rw [bcCol]
    exact wrap8_at id R k.isLt hid

end Cert.ReferenceIdeal.Val

end
-- ==== Proof.RefRegion.lean ====
/-
The reference's one kernel call widens the two arrays of codes to f32, entry by entry.
-/
module
public import proofs.«01_k».proof.Proof.Gen.ReferenceIdeal.Frame
public import Idealize.ShloMosaic.Lib.Pipeline.Value

@[expose] public section

set_option maxRecDepth 16384

noncomputable section

namespace Cert.ReferenceIdeal.Val

open Cert.ReferenceIdeal.Gen
open Idealize.ShloMosaic Idealize.ShloMosaic.TcCoe
open Idealize.SL Idealize.SL.Sem

variable {F : FTy → Type} [FloatOps F]

/-- The codes of `x`, widened. -/
def wide0 (x : Vec F S98304x4096 .fp8e4m3) : FVec F S98304x4096 .f32 := extf .f32 x bitsLt_fp8e4m3_f32
def wide3 (x : Vec F S8x4096x3072 .fp8e4m3) : FVec F S8x4096x3072 .f32 := extf .f32 x bitsLt_fp8e4m3_f32

theorem unit2 (y : S98304x4096.Idx) : r0_0.emb y = y := funext fun a => Fin.ext (by
  match a with
  | ⟨0, _⟩ => show 0 + 1 * (y 0).val = (y 0).val; omega
  | ⟨1, _⟩ => show 0 + 1 * (y 1).val = (y 1).val; omega)
theorem unit3 (y : S8x4096x3072.Idx) : r0_1.emb y = y := funext fun a => Fin.ext (by
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega)

theorem out2_at (x0 : Vec F S98304x4096 .fp8e4m3) (x1 : Vec F S8x4096x3072 .fp8e4m3) (y : S98304x4096.Idx) : out0_2 x0 x1 y = wide0 x0 y := by
  unfold out0_2
  have h := View.canon_cons_emb (Val := Elt F) (e := .f32) r0_0 (k0_pay1 (View.ld x0 r0_0)) [] y
  have h' : wide0 x0 (r0_0.emb y) = wide0 x0 y := congrArg _ (unit2 y)
  exact (congrArg _ (unit2 y)).symm.trans (h.trans h')
theorem out3_at (x0 : Vec F S98304x4096 .fp8e4m3) (x1 : Vec F S8x4096x3072 .fp8e4m3) (y : S8x4096x3072.Idx) : out0_3 x0 x1 y = wide3 x1 y := by
  unfold out0_3
  have h := View.canon_cons_emb (Val := Elt F) (e := .f32) r0_1 (k0_pay2 (View.ld x1 r0_1)) [] y
  have h' : wide3 x1 (r0_1.emb y) = wide3 x1 y := congrArg _ (unit3 y)
  exact (congrArg _ (unit3 y)).symm.trans (h.trans h')

variable (m : (ℓ : Loc nD τ sig) → Buf (Elt F) ℓ) (c : Dev nD)

theorem emb0 (t : Fin cfg0.N) (p : S98304x4096.Idx) : ((cfg0.win 0).rect t).emb p = p := funext fun a => Fin.ext (by
  match a with
  | ⟨0, _⟩ => show 0 * 98304 + 1 * (p 0).val = (p 0).val; omega
  | ⟨1, _⟩ => show 0 * 4096 + 1 * (p 1).val = (p 1).val; omega)
theorem emb1 (t : Fin cfg0.N) (p : S8x4096x3072.Idx) : ((cfg0.win 1).rect t).emb p = p := funext fun a => Fin.ext (by
  match a with
  | ⟨0, _⟩ => show 0 * 8 + 1 * (p 0).val = (p 0).val; omega
  | ⟨1, _⟩ => show 0 * 4096 + 1 * (p 1).val = (p 1).val; omega
  | ⟨2, _⟩ => show 0 * 3072 + 1 * (p 2).val = (p 2).val; omega)
theorem emb2 (t : Fin cfg0.N) (p : S98304x4096.Idx) : ((cfg0.win 2).rect t).emb p = p := funext fun a => Fin.ext (by
  match a with
  | ⟨0, _⟩ => show 0 * 98304 + 1 * (p 0).val = (p 0).val; omega
  | ⟨1, _⟩ => show 0 * 4096 + 1 * (p 1).val = (p 1).val; omega)
theorem emb3 (t : Fin cfg0.N) (p : S8x4096x3072.Idx) : ((cfg0.win 3).rect t).emb p = p := funext fun a => Fin.ext (by
  match a with
  | ⟨0, _⟩ => show 0 * 8 + 1 * (p 0).val = (p 0).val; omega
  | ⟨1, _⟩ => show 0 * 4096 + 1 * (p 1).val = (p 1).val; omega
  | ⟨2, _⟩ => show 0 * 3072 + 1 * (p 2).val = (p 2).val; omega)

def t0 : Fin cfg0.N := ⟨0, by decide⟩
theorem mem2 (q : S98304x4096.Idx) : q ∈ ((cfg0.win 2).blk t0).view.set := by
  have h1 : ((cfg0.win 2).rect t0).emb q ∈ ((cfg0.win 2).blk t0).view.set := ((cfg0.win 2).blk t0).view.emb_mem_set q
  exact Eq.mp (congrArg (fun z : S98304x4096.Idx => z ∈ ((cfg0.win 2).blk t0).view.set) (emb2 t0 q)) h1
theorem mem3 (q : S8x4096x3072.Idx) : q ∈ ((cfg0.win 3).blk t0).view.set := by
  have h1 : ((cfg0.win 3).rect t0).emb q ∈ ((cfg0.win 3).blk t0).view.set := ((cfg0.win 3).blk t0).view.emb_mem_set q
  exact Eq.mp (congrArg (fun z : S8x4096x3072.Idx => z ∈ ((cfg0.win 3).blk t0).view.set) (emb3 t0 q)) h1

theorem blk0 (t : Fin cfg0.N) : (iblk m c 0 t : Vec F S98304x4096 .fp8e4m3) = m ((c : Thread nD τ).loc main_arg0) :=
  funext fun p => congrArg (m ((c : Thread nD τ).loc main_arg0) : Vec F S98304x4096 .fp8e4m3) (emb0 t p)
theorem blk1 (t : Fin cfg0.N) : (iblk m c 1 t : Vec F S8x4096x3072 .fp8e4m3) = m ((c : Thread nD τ).loc main_arg3) :=
  funext fun p => congrArg (m ((c : Thread nD τ).loc main_arg3) : Vec F S8x4096x3072 .fp8e4m3) (emb1 t p)

theorem arr2 : ((dats m 0 c).arrAt 2 cfg0.N : FVec F S98304x4096 .f32) = wide0 (m ((c : Thread nD τ).loc main_arg0)) := by
  refine (dats m 0 c).arrAt_eq_of_cover 2 (wide0 (m ((c : Thread nD τ).loc main_arg0))) (fun t _ => ?_) (fun q => ?_)
  · refine funext fun (p : S98304x4096.Idx) => ?_
    refine (congrFun (after0_2 m c t) p).trans ((out2_at _ _ p).trans ?_)
    rw [blk0]
    exact (congrArg (wide0 (m ((c : Thread nD τ).loc main_arg0)) : FVec F S98304x4096 .f32) (emb2 t p)).symm
  · exact ⟨t0, flush0_2 _, mem2 q⟩
theorem arr3 : ((dats m 0 c).arrAt 3 cfg0.N : FVec F S8x4096x3072 .f32) = wide3 (m ((c : Thread nD τ).loc main_arg3)) := by
  refine (dats m 0 c).arrAt_eq_of_cover 3 (wide3 (m ((c : Thread nD τ).loc main_arg3))) (fun t _ => ?_) (fun q => ?_)
  · refine funext fun (p : S8x4096x3072.Idx) => ?_
    refine (congrFun (after0_3 m c t) p).trans ((out3_at _ _ p).trans ?_)
    rw [blk1]
    exact (congrArg (wide3 (m ((c : Thread nD τ).loc main_arg3)) : FVec F S8x4096x3072 .f32) (emb3 t p)).symm
  · exact ⟨t0, flush0_3 _, mem3 q⟩

end Cert.ReferenceIdeal.Val

end
-- ==== Proof.RefTail.lean ====
/-
The reference's host operations in order: its result is the eight masked products, scaled and cast.
-/
module
public import proofs.«01_k».proof.Proof.RefIndex
public import proofs.«01_k».proof.Proof.RefRegion

@[expose] public section

set_option maxRecDepth 16384

noncomputable section

namespace Cert.ReferenceIdeal.Val

open Cert.ReferenceIdeal.Gen
open Idealize.ShloMosaic Idealize.ShloMosaic.TcCoe
open Idealize.SL Idealize.SL.Sem

variable {F : FTy → Type} [FloatOps F]
variable {X : Valuation τ sig (Elt F)} {x : FVec F S98304x4096 .f32} {w : FVec F S8x4096x3072 .f32} {s : FVec F S98304x1 .f32} {v : FVec F S8x3072 .f32}
  {id : IVec S98304 32}

/-- What the operations after the launch read and none of them writes. -/
structure Ins (X : Valuation τ sig (Elt F)) (x : FVec F S98304x4096 .f32) (w : FVec F S8x4096x3072 .f32) (s : FVec F S98304x1 .f32) (v : FVec F S8x3072 .f32) : Prop where
  x : (X (Proc.devRef .tc main_v0_0) : FVec F S98304x4096 .f32) = x
  w : (X (Proc.devRef .tc main_v0_1) : FVec F S8x4096x3072 .f32) = w
  s : (X (Proc.devRef .tc main_arg1) : FVec F S98304x1 .f32) = s
  v : (X (Proc.devRef .tc main_arg4) : FVec F S8x3072 .f32) = v

theorem Ins.after (h : Ins X x w s v) (ops : List (HloOp τ sig (Elt F))) (W : List (Ref sig .tc))
    (hw : ops.Forall fun op => op.writes ⊆ (W.map (Proc.devRef (τ := τ) .tc)).toFinset)
    (hn : main_v0_0 ∉ W ∧ main_v0_1 ∉ W ∧ main_arg1 ∉ W ∧ main_arg4 ∉ W) : Ins (StableHlo.after ops X) x w s v :=
  ⟨(StableHlo.after_of_writes_sub ops X hw hn.1).trans h.x, (StableHlo.after_of_writes_sub ops X hw hn.2.1).trans h.w,
    (StableHlo.after_of_writes_sub ops X hw hn.2.2.1).trans h.s, (StableHlo.after_of_writes_sub ops X hw hn.2.2.2).trans h.v⟩

/-- The same, and the expert of each row. -/
structure Got (X : Valuation τ sig (Elt F)) (x : FVec F S98304x4096 .f32) (w : FVec F S8x4096x3072 .f32) (s : FVec F S98304x1 .f32) (v : FVec F S8x3072 .f32)
    (id : IVec S98304 32) : Prop where
  ins : Ins X x w s v
  id : (X (Proc.devRef .tc main_v4) : IVec S98304 32) = id

theorem Got.after (h : Got X x w s v id) (ops : List (HloOp τ sig (Elt F))) (W : List (Ref sig .tc))
    (hw : ops.Forall fun op => op.writes ⊆ (W.map (Proc.devRef (τ := τ) .tc)).toFinset)
    (hn : main_v0_0 ∉ W ∧ main_v0_1 ∉ W ∧ main_arg1 ∉ W ∧ main_arg4 ∉ W) (h4 : main_v4 ∉ W) : Got (StableHlo.after ops X) x w s v id :=
  ⟨h.ins.after ops W hw hn, (StableHlo.after_of_writes_sub ops X hw h4).trans h.id⟩

/-- Of a masked product read where the inputs are known. -/
theorem Got.pick (h : Got X x w s v id) {y : FVec F S98304x3072 .f32} {e : ℕ} {hs : S8x4096x3072.Slices ![e, 0, 0] S1x4096x3072} {b : BitVec 32}
    {prev prev' : FVec F S98304x3072 .f32}
    (hy : y = pick (X (Proc.devRef .tc main_v0_0)) (X (Proc.devRef .tc main_v0_1)) (X (Proc.devRef .tc main_v4)) e hs b prev) (hp : prev = prev') :
    y = Val.pick x w id e hs b prev' := by rw [hy, h.ins.x, h.ins.w, h.id, hp]

/-- The whole list of operations, from the inputs. -/
theorem tail_v72 (h : Ins X x w s v) (a2 : IVec S8 32) (h2 : (X (Proc.devRef .tc main_arg2) : IVec S8 32) = a2) :
    (StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21]) X (Proc.devRef .tc main_v72) : FVec F S98304x3072 .bf16)
    = scaled (picks x w (ids a2)) s v (ids a2) := by
  simp only [List.flatten_cons, List.flatten_nil, List.append_nil, StableHlo.after_append]
  have i0 := h.after hostOps1 _ hostOps1_writes (by decide +kernel)
  have e1 := (read_v1 X).trans (congrArg cumsum8 h2)
  generalize StableHlo.after hostOps1 X = X at i0 e1 ⊢
  have i1 := i0.after hostOps1_1 _ hostOps1_1_writes (by decide +kernel)
  have e1' := (StableHlo.after_of_writes_sub (r := main_v1) hostOps1_1 X hostOps1_1_writes (by decide +kernel)).trans e1
  have e2 := read_v2 X
  generalize StableHlo.after hostOps1_1 X = X at i1 e1' e2 ⊢
  have i2 := i1.after hostOps1_2 _ hostOps1_2_writes (by decide +kernel)
  have e3 := (read_v3 X).trans (congrArg₂ passed e1' e2)
  generalize StableHlo.after hostOps1_2 X = X at i2 e3 ⊢
  have g4 : Got _ x w s v (ids a2) := ⟨(i2.after hostOps1_3 _ hostOps1_3_writes (by decide +kernel)).after hostOps1_4 _ hostOps1_4_writes (by decide +kernel),
    (read_v4 X).trans (congrArg clip7 e3)⟩
  generalize StableHlo.after hostOps1_4 (StableHlo.after hostOps1_3 X) = X at g4 ⊢
  have p0 := g4.pick (read_v12 X) rfl
  have g5 := (g4.after hostOps1_5 _ hostOps1_5_writes (by decide +kernel) (by decide +kernel)).after hostOps1_6 _ hostOps1_6_writes (by decide +kernel) (by decide +kernel)
  generalize StableHlo.after hostOps1_6 (StableHlo.after hostOps1_5 X) = X at p0 g5 ⊢
  have p1 := g5.pick (read_v19 X) p0
  have g6 := (g5.after hostOps1_7 _ hostOps1_7_writes (by decide +kernel) (by decide +kernel)).after hostOps1_8 _ hostOps1_8_writes (by decide +kernel) (by decide +kernel)
  generalize StableHlo.after hostOps1_8 (StableHlo.after hostOps1_7 X) = X at p1 g6 ⊢
  have p2 := g6.pick (read_v26 X) p1
  have g7 := (g6.after hostOps1_9 _ hostOps1_9_writes (by decide +kernel) (by decide +kernel)).after hostOps1_10 _ hostOps1_10_writes (by decide +kernel) (by decide +kernel)
  generalize StableHlo.after hostOps1_10 (StableHlo.after hostOps1_9 X) = X at p2 g7 ⊢
  have p3 := g7.pick (read_v33 X) p2
  have g8 := (g7.after hostOps1_11 _ hostOps1_11_writes (by decide +kernel) (by decide +kernel)).after hostOps1_12 _ hostOps1_12_writes (by decide +kernel) (by decide +kernel)
  generalize StableHlo.after hostOps1_12 (StableHlo.after hostOps1_11 X) = X at p3 g8 ⊢
  have p4 := g8.pick (read_v40 X) p3
  have g9 := (g8.after hostOps1_13 _ hostOps1_13_writes (by decide +kernel) (by decide +kernel)).after hostOps1_14 _ hostOps1_14_writes (by decide +kernel) (by decide +kernel)
  generalize StableHlo.after hostOps1_14 (StableHlo.after hostOps1_13 X) = X at p4 g9 ⊢
  have p5 := g9.pick (read_v47 X) p4
  have g10 := (g9.after hostOps1_15 _ hostOps1_15_writes (by decide +kernel) (by decide +kernel)).after hostOps1_16 _ hostOps1_16_writes (by decide +kernel) (by decide +kernel)
  generalize StableHlo.after hostOps1_16 (StableHlo.after hostOps1_15 X) = X at p5 g10 ⊢
  have p6 := g10.pick (read_v54 X) p5
  have g11 := (g10.after hostOps1_17 _ hostOps1_17_writes (by decide +kernel) (by decide +kernel)).after hostOps1_18 _ hostOps1_18_writes (by decide +kernel) (by decide +kernel)
  generalize StableHlo.after hostOps1_18 (StableHlo.after hostOps1_17 X) = X at p6 g11 ⊢
  have p7 := g11.pick (read_v61 X) p6
  have g12 := (g11.after hostOps1_19 _ hostOps1_19_writes (by decide +kernel) (by decide +kernel)).after hostOps1_20 _ hostOps1_20_writes (by decide +kernel) (by decide +kernel)
  generalize StableHlo.after hostOps1_20 (StableHlo.after hostOps1_19 X) = X at p7 g12 ⊢
  refine (read_v72 X).trans ?_
  rw [p7, g12.ins.s, g12.ins.v, g12.id]
  rfl

/-! ## The launch's result -/

variable (m : (ℓ : Loc nD τ sig) → Buf (Elt F) ℓ) (ρ : Dev nD → PrngReg)

/-- The reference's result, from its arguments. -/
def result (c : Dev nD) : FVec F S98304x3072 .bf16 :=
  scaled (picks (wide0 (m ((c : Thread nD τ).loc main_arg0))) (wide3 (m ((c : Thread nD τ).loc main_arg3))) (ids (m ((c : Thread nD τ).loc main_arg2))))
    (m ((c : Thread nD τ).loc main_arg1)) (m ((c : Thread nD τ).loc main_arg4)) (ids (m ((c : Thread nD τ).loc main_arg2)))

theorem tail_result (c : Dev nD) : (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21] c main_v72 : FVec F S98304x3072 .bf16) = result m c := by
  unfold Pipeline.afterTail₀ result
  refine tail_v72 ⟨?_, ?_, ?_, ?_⟩ _ ?_
  · exact (Pipeline.withArrays_arr (cfgs 0).spec launch0.win.arr_inj c (V0 m c) (fun w => (dats m 0 c).arrAt w cfg0.N) 2).trans (arr2 m c)
  · exact (Pipeline.withArrays_arr (cfgs 0).spec launch0.win.arr_inj c (V0 m c) (fun w => (dats m 0 c).arrAt w cfg0.N) 3).trans (arr3 m c)
  · exact Pipeline.withArrays_of_ne _ c (V0 m c) _ main_arg1 (by decide)
  · exact Pipeline.withArrays_of_ne _ c (V0 m c) _ main_arg4 (by decide)
  · exact Pipeline.withArrays_of_ne _ c (V0 m c) _ main_arg2 (by decide)

theorem value : θ_run defs (onTc (τ := τ) (main (F := F))) ⟨m, fun _ => 0, ρ⟩ (fun r => ∀ c : Dev nD,
      r.2.mem ((c.tc : Thread nD τ).loc main_v72) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).2 main_v72 (Pipeline.mem_restRefs_of main_v72 (by decide) (by decide))).trans (tail_result m c),
    ((h.1 c).1 0).trans (((dats m 0 c).arrAt_in 0 rfl _).trans ((A_eq m c 0).trans (V_main_arg0 m c))),
      (((h.1 c).2 main_arg1 (Pipeline.mem_restRefs_of main_arg1 (by decide) (by decide))).trans (W_main_arg1 m (dats m) c)),
      (((h.1 c).2 main_arg2 (Pipeline.mem_restRefs_of main_arg2 (by decide) (by decide))).trans (W_main_arg2 m (dats m) c)),
      ((h.1 c).1 1).trans (((dats m 0 c).arrAt_in 1 rfl _).trans ((A_eq m c 1).trans (V_main_arg3 m c))),
      (((h.1 c).2 main_arg4 (Pipeline.mem_restRefs_of main_arg4 (by decide) (by decide))).trans (W_main_arg4 m (dats m) c))⟩) (run_main_quiescent m ρ)

end Cert.ReferenceIdeal.Val

end
-- ==== Proof.Equal.lean ====
/-
The two results are the same array: entry by entry, both are the row's product with its expert's weights, times the two scales.
-/
module
public import proofs.«01_k».proof.Proof.Product
public import proofs.«01_k».proof.Proof.Launch
public import proofs.«01_k».proof.Proof.Sizes
public import proofs.«01_k».proof.Proof.RefTail

@[expose] public section

set_option maxRecDepth 16384

noncomputable section

namespace Cert.Equal

open Idealize.ShloMosaic Idealize.ShloMosaic.TcCoe Idealize.ShloMosaic.ValueIdx
open Idealize.SL Idealize.SL.Sem
open Cert.KernelIdeal.Gen
open Cert.Sched (S E)
open Cert.KernelIdeal.Val (own gD Split V_v49)

/-- Row `R` times column `j` of expert `e`'s weights, times the row's scale, times the column's. -/
def entry (x : (⟨2, ![98304, 4096]⟩ : Shape).Idx → EReal) (s : (⟨2, ![98304, 1]⟩ : Shape).Idx → EReal) (w : (⟨3, ![8, 4096, 3072]⟩ : Shape).Idx → EReal)
    (v : (⟨2, ![8, 3072]⟩ : Shape).Idx → EReal) (R : Fin 98304) (j : Fin 3072) (e : Fin 8) : EReal :=
  ((∑ k : Fin 4096, x (ix2 R k) * w (ix3 e k j)) * s (ix2 R (0 : Fin 1))) * v (ix2 e j)

variable (m : (ℓ : Loc Cert.KernelIdeal.nD Cert.KernelIdeal.τ Cert.KernelIdeal.sig) → Buf (Elt Ideal) ℓ) (c : Dev Cert.KernelIdeal.nD)

/-- An entry of the kernel's result. -/
theorem kernel_at (hs : Split m) (R : Fin 98304) (j : Fin 3072) (e : Fin 8) (he : own (gD m) R.val = e.val) :
    (Cert.KernelIdeal.Val.result m c (ix2 R j) : EReal)
    = entry (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg3)) (m ((c : Thread Cert.KernelIdeal.nD Cert.KernelIdeal.τ).loc Cert.KernelIdeal.main_arg4)) R j e := by
  refine (Cert.KernelIdeal.Val.yRow_at _ _ _ _ (gD m) R j e he).trans ?_
  refine congrArg₂ (fun a b : EReal => a * b) (congrArg₂ (fun a b : EReal => a * b) rfl rfl) ?_
  refine (congrFun (V_v49 m c) _).trans ?_
  exact shapeCast_apply (s := Cert.KernelIdeal.S8x3072) _ _ (ix3 e (0 : Fin 1) j) (ix2 e j) (by
    rw [Shape.rowMajor_val_two, Shape.rowMajor_val_three]
    show e.val * 3072 + j.val = (e.val * 1 + 0) * 3072 + j.val
    omega)

variable (m' : (ℓ : Loc Cert.ReferenceIdeal.nD Cert.ReferenceIdeal.τ Cert.ReferenceIdeal.sig) → Buf (Elt Ideal) ℓ)

/-- An entry of the reference's. -/
theorem reference_at (g : ℕ → ℕ) (hS : S g 8 = 98304)
    (hg : ∀ e : Fin 8, (m' ((c : Thread Cert.ReferenceIdeal.nD Cert.ReferenceIdeal.τ).loc Cert.ReferenceIdeal.main_arg2) : IVec Cert.ReferenceIdeal.S8 32) (ix1 e) = BitVec.ofNat 32 (g e.val))
    (R : Fin 98304) (j : Fin 3072) (e : Fin 8) (he : own g R.val = e.val) :
    (Cert.ReferenceIdeal.Val.result m' c (ix2 R j) : EReal)
    = entry (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) R j e := by
  have hid := (Cert.ReferenceIdeal.Val.ids_at _ g hg hS R).trans (congrArg (BitVec.ofNat 32) he)
  unfold Cert.ReferenceIdeal.Val.result
  rw [Cert.ReferenceIdeal.Val.scaled_at _ _ _ _ R j e hid, Cert.ReferenceIdeal.Val.picks_at _ _ _ R j e hid]
  rfl

/-- Where the group sizes split the rows and the arguments agree, the results do. -/
theorem result_eq (hs : Split m)
    (h : m' ((c : Thread Cert.ReferenceIdeal.nD Cert.ReferenceIdeal.τ).loc Cert.ReferenceIdeal.main_arg0) = m ((c : Thread Cert.KernelIdeal.nD Cert.KernelIdeal.τ).loc Cert.KernelIdeal.main_arg0)
      ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
      ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
      ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
      ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)) :
    (Cert.ReferenceIdeal.Val.result m' c : FVec Ideal Cert.ReferenceIdeal.S98304x3072 .bf16) = Cert.KernelIdeal.Val.result m c := by
  obtain ⟨h0, h1, h2, h3, h4⟩ := h
  obtain rfl : c = 0 := Subsingleton.elim _ _
  funext p
  have hp : p = ix2 (p 0 : Fin 98304) (p 1 : Fin 3072) := funext fun a => by
    match a with
    | ⟨0, _⟩ => rfl
    | ⟨1, _⟩ => rfl
  rw [hp]
  have hlt := Cert.ReferenceIdeal.Val.own_lt (gD m) hs (p 0)
  have hk := kernel_at m 0 hs (p 0) (p 1) ⟨_, hlt⟩ rfl
  have hr := reference_at 0 m' (gD m) hs (fun e => (congrFun h2 (ix1 e)).trans (Cert.Sizes.sizes_at _ e)) (p 0) (p 1) ⟨_, hlt⟩ rfl
  rw [h0, h1, h3, h4] at hr
  exact hr.trans hk.symm

end Cert.Equal

end
-- ==== Proof.Value.lean ====
/-
The claims about the idealized kernel and the reference, from the precondition that the group sizes split the rows.
-/
module
public import proofs.«01_k».proof.Proof.Equal
public import proofs.«01_k».proof.Proof.Gen.Pre_sizes_split_tokens
public import proofs.«01_k».proof.Defs

@[expose] public section

set_option maxRecDepth 16384

noncomputable section

namespace Cert.Value

open Idealize.ShloMosaic Idealize.SL Idealize.SL.Sem
open Cert.KernelIdeal.Gen Cert.ReferenceIdeal.Gen Cert.Pre_sizes_split_tokens.Gen

/-- The precondition, as an equation of numbers. -/
theorem split_of (m : (ℓ : Loc Cert.KernelIdeal.nD Cert.KernelIdeal.τ Cert.KernelIdeal.sig) → Buf (Elt Ideal) ℓ)
    (h : Cert.Pre_KernelIdeal (hPre_sizes_split_tokens := Cert.Pre_sizes_split_tokens.Gen.facts) m) : Cert.KernelIdeal.Val.Split m :=
  Cert.Sizes.sizes_split (F := Ideal) _ _ _ _ _ (h 0)

theorem quiescent : Cert.quiescent_KernelIdeal (hKernelIdeal := Cert.KernelIdeal.Gen.facts) (hPre_sizes_split_tokens := Cert.Pre_sizes_split_tokens.Gen.facts) :=
  fun m g h => Cert.KernelIdeal.Val.frame (F := Ideal) m g (split_of m h)

/-- The kernel and the reference compute the same array over the extended reals. -/
theorem algebraic : Cert.algebraic_KernelIdeal_ReferenceIdeal (hKernelIdeal := Cert.KernelIdeal.Gen.facts) (hReferenceIdeal := Cert.ReferenceIdeal.Gen.facts)
    (hPre_sizes_split_tokens := Cert.Pre_sizes_split_tokens.Gen.facts) := fun m g m' g' h ha => by
  have hs := split_of m h
  refine ⟨fun c => Cert.KernelIdeal.Val.result m c, Cert.KernelIdeal.Val.value (F := Ideal) m g hs, ?_⟩
  refine (θ_run _ _ _).mono (fun r hr c => ⟨(hr c).1.trans ?_, (hr c).2⟩) (Cert.ReferenceIdeal.Val.value (F := Ideal) m' g')
  exact Cert.Equal.result_eq m c m' hs (ha c)

end Cert.Value

end
-- ==== Proof.Same.lean ====
/-
The kernel and its idealization are one program text, printed twice. Here: the same host operations in the same order, around the same
launch.
-/
module
public import proofs.«01_k».proof.Proof.Launch
public import proofs.«01_k».proof.Proof.Gen.Kernel
public import proofs.«01_k».proof.Proof.Gen.Kernel.Launch
public import proofs.«01_k».proof.Defs

@[expose] public section

set_option maxRecDepth 16384

noncomputable section

namespace Cert.Same

open Idealize.ShloMosaic Idealize.SL Idealize.SL.Sem

variable {F : FTy → Type} [FloatOps F]

/-! ## The host operations, stretch by stretch -/

theorem ops0 : (Cert.Kernel.Gen.hostOps0 : List (HloOp Cert.KernelIdeal.τ Cert.KernelIdeal.sig (Elt F))) = Cert.KernelIdeal.Gen.hostOps0 := rfl
theorem ops1 : (Cert.Kernel.Gen.hostOps0_1 : List (HloOp Cert.KernelIdeal.τ Cert.KernelIdeal.sig (Elt F))) = Cert.KernelIdeal.Gen.hostOps0_1 := rfl
theorem ops2 : (Cert.Kernel.Gen.hostOps0_2 : List (HloOp Cert.KernelIdeal.τ Cert.KernelIdeal.sig (Elt F))) = Cert.KernelIdeal.Gen.hostOps0_2 := rfl
theorem ops3 : (Cert.Kernel.Gen.hostOps0_3 : List (HloOp Cert.KernelIdeal.τ Cert.KernelIdeal.sig (Elt F))) = Cert.KernelIdeal.Gen.hostOps0_3 := rfl
theorem ops4 : (Cert.Kernel.Gen.hostOps0_4 : List (HloOp Cert.KernelIdeal.τ Cert.KernelIdeal.sig (Elt F))) = Cert.KernelIdeal.Gen.hostOps0_4 := rfl
theorem ops5 : (Cert.Kernel.Gen.hostOps0_5 : List (HloOp Cert.KernelIdeal.τ Cert.KernelIdeal.sig (Elt F))) = Cert.KernelIdeal.Gen.hostOps0_5 := rfl
theorem ops6 : (Cert.Kernel.Gen.hostOps0_6 : List (HloOp Cert.KernelIdeal.τ Cert.KernelIdeal.sig (Elt F))) = Cert.KernelIdeal.Gen.hostOps0_6 := rfl
theorem ops7 : (Cert.Kernel.Gen.hostOps0_7 : List (HloOp Cert.KernelIdeal.τ Cert.KernelIdeal.sig (Elt F))) = Cert.KernelIdeal.Gen.hostOps0_7 := rfl
theorem ops8 : (Cert.Kernel.Gen.hostOps0_8 : List (HloOp Cert.KernelIdeal.τ Cert.KernelIdeal.sig (Elt F))) = Cert.KernelIdeal.Gen.hostOps0_8 := rfl
theorem ops9 : (Cert.Kernel.Gen.hostOps0_9 : List (HloOp Cert.KernelIdeal.τ Cert.KernelIdeal.sig (Elt F))) = Cert.KernelIdeal.Gen.hostOps0_9 := rfl
theorem ops10 : (Cert.Kernel.Gen.hostOps0_10 : List (HloOp Cert.KernelIdeal.τ Cert.KernelIdeal.sig (Elt F))) = Cert.KernelIdeal.Gen.hostOps0_10 := rfl
theorem ops11 : (Cert.Kernel.Gen.hostOps0_11 : List (HloOp Cert.KernelIdeal.τ Cert.KernelIdeal.sig (Elt F))) = Cert.KernelIdeal.Gen.hostOps0_11 := rfl
theorem ops12 : (Cert.Kernel.Gen.hostOps0_12 : List (HloOp Cert.KernelIdeal.τ Cert.KernelIdeal.sig (Elt F))) = Cert.KernelIdeal.Gen.hostOps0_12 := rfl

/-! ## The program -/

set_option maxHeartbeats 4000000 in
theorem main_eq (c : Dev Cert.KernelIdeal.nD) : Cert.Kernel.main (F := F) c = Cert.KernelIdeal.main (F := F) c := by
  refine (Cert.Kernel.Gen.main_chain (F := F) c).trans (Eq.trans ?_ (Cert.KernelIdeal.Gen.main_chain (F := F) c).symm)
  rw [ops0, ops1, ops2, ops3, ops4, ops5, ops6, ops7, ops8, ops9, ops10, ops11, ops12]
  rfl

end Cert.Same

end
-- ==== Proof.SameFrame.lean ====
/-
The kernel and its idealization are one program text, printed twice: the same host operations, the same launch, the same body. So the
kernel's own frame, over words, is the frame that was proved over any floats.
-/
module
public import proofs.«01_k».proof.Proof.Same
public import proofs.«01_k».proof.Proof.Sizes
public import proofs.«01_k».proof.Proof.Gen.Kernel
public import proofs.«01_k».proof.Proof.Gen.Kernel.Launch
public import proofs.«01_k».proof.Defs

@[expose] public section

set_option maxRecDepth 16384

noncomputable section

namespace Cert.Same

open Idealize.ShloMosaic Idealize.SL Idealize.SL.Sem

variable {F : FTy → Type} [FloatOps F]

set_option maxHeartbeats 4000000 in
/-- The same body. -/
theorem defs₀_eq : (Cert.Kernel.defs₀ (F := F)) = Cert.KernelIdeal.defs₀ (F := F) := by
  unfold Cert.Kernel.defs₀ Cert.KernelIdeal.defs₀
  refine congrArg Defs.onTc ?_
  funext l a
  match l, a with
  | ⟨0, h⟩, a => rfl

set_option maxHeartbeats 4000000 in
/-- The same launch of it. -/
theorem defs_eq : (Cert.Kernel.defs (F := F)) = Cert.KernelIdeal.defs (F := F) :=
  congrArg (Pipeline.defs (Cert.KernelIdeal.pcfgs (F := F))) (defs₀_eq (F := F))

/-- A run of the kernel is a run of its idealization's text. -/
theorem run_eq (s : MemSt Cert.KernelIdeal.nD Cert.KernelIdeal.τ Cert.KernelIdeal.sig (Elt F)) (Q : PUnit × MemSt Cert.KernelIdeal.nD Cert.KernelIdeal.τ Cert.KernelIdeal.sig (Elt F) → Prop) :
    θ_run (Cert.Kernel.defs (F := F)) (onTc (τ := Cert.KernelIdeal.τ) (Cert.Kernel.main (F := F))) s Q
    = θ_run (Cert.KernelIdeal.defs (F := F)) (onTc (τ := Cert.KernelIdeal.τ) (Cert.KernelIdeal.main (F := F))) s Q :=
  congrArg₂ (fun d p => θ_run d (onTc (τ := Cert.KernelIdeal.τ) p) s Q) (defs_eq (F := F)) (funext (main_eq (F := F)))

variable (m : (ℓ : Loc Cert.Kernel.nD Cert.Kernel.τ Cert.Kernel.sig) → Buf (Elt F) ℓ) (ρ : Dev Cert.Kernel.nD → PrngReg)

/-- The kernel's frame, where the group sizes split the rows. -/
theorem frame (hs : Cert.Sched.S (Cert.Sizes.sizes (m (((0 : Dev Cert.Kernel.nD).tc : Thread Cert.Kernel.nD Cert.Kernel.τ).loc Cert.Kernel.main_arg2))) 8 = 98304) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  (run_eq (F := F) ⟨m, fun _ => 0, ρ⟩ _).mpr (Cert.KernelIdeal.Val.frame (F := F) m ρ hs)

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes_split_tokens
public import proofs.«01_k».proof.Proof.Value
public import proofs.«01_k».proof.Proof.SameFrame
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_sizes_split_tokens.Gen.facts,
  fun m g h => Cert.Same.frame (F := Bits) m g (Cert.Sizes.sizes_split (F := Bits) _ _ _ _ _ (h 0)),
  Cert.Value.quiescent,
  fun m g _ => Cert.ReferenceIdeal.Gen.frame (F := Ideal) m g,
  fun m g _ => Cert.ReferenceIdeal.Gen.frame (F := Ideal) m g,
  trivial,
  Cert.Value.algebraic⟩

end Cert.Proof

end
